-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_temp" .f32 0x41649249#32 ((134217728 / 9395241 : ℝ) : EReal)

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_finite_and_in_range : Cert.Pre_finite_and_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S128x128 : Shape := ⟨2, ![128, 128]⟩
abbrev S100x128 : Shape := ⟨2, ![100, 128]⟩
abbrev S128 : Shape := ⟨1, ![128]⟩
abbrev S100x128x4096 : Shape := ⟨3, ![100, 128, 4096]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S100x128x4096 : S_.BroadcastsInDim S100x128x4096 (![] : Fin 0 → Fin S100x128x4096.rank)
  reducesTo_S100x128x4096_S_d0_1_2 : S100x128x4096.ReducesTo [0, 1, 2] S_
  bcast_S_S128 : S_.BroadcastsInDim S128 (![] : Fin 0 → Fin S128.rank)

variable [Facts]

def fn_part1 {F : FTy → Type} [FloatOps F] (main_arg3 : IVec S128 32) (main_v13 : IVec S_ 1) (main_v15 : IVec S128 1) (main_c_5 : IVec S_ 32) : IVec S128 1 :=
  let main_v16 : IVec S128 32 := broadcastInDim S128 ![] bcast_S_S128 main_c_5
  let main_v17 : IVec S128 1 := cmpi .slt main_arg3 main_v16
  let main_v18 : IVec S128 1 := andi main_v15 main_v17
  let main_v19 : IVec S128 1 := broadcastInDim S128 ![] bcast_S_S128 main_v13
  let main_v20 : IVec S128 1 := andi main_v18 main_v19
  main_v20

def fn {F : FTy → Type} [FloatOps F] (main_arg0 : FVec F S128x128 .f32) (main_arg1 : FVec F S128x128 .f32) (main_arg2 : FVec F S100x128 .f32) (main_arg3 : IVec S128 32) (main_arg4 : FVec F S100x128x4096 .f32) : IVec S128 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S100x128x4096 .f32 := Host.absf main_arg4
  let main_cst_2 : FVec F S_ .f32 := constant S_ .f32 0x7F800000#32
  let main_v10 : FVec F S100x128x4096 .f32 := broadcastInDim S100x128x4096 ![] bcast_S_S100x128x4096 main_cst_2
  let main_v11 : IVec S100x128x4096 1 := cmpf .olt main_v9 main_v10
  let main_c_3 : IVec S_ 1 := constantI S_ 1 1#1
  let main_v12 : IVec S_ 1 := (fun x v => Host.reduce IntOp.andi x v reducesTo_S100x128x4096_S_d0_1_2 h_S_) main_v11 main_c_3
  let main_v13 : IVec S_ 1 := andi main_v8 main_v12
  let main_c_4 : IVec S_ 32 := constantI S_ 32 0#32
  let main_v14 : IVec S128 32 := broadcastInDim S128 ![] bcast_S_S128 main_c_4
  let main_v15 : IVec S128 1 := cmpi .sge main_arg3 main_v14
  let main_c_5 : IVec S_ 32 := constantI S_ 32 100#32
  fn_part1 (F := F) main_arg3 main_v13 main_v15 main_c_5
-- ==== Pre_labels_in_range.lean ====
abbrev S128x128 : Shape := ⟨2, ![128, 128]⟩
abbrev S100x128 : Shape := ⟨2, ![100, 128]⟩
abbrev S128 : Shape := ⟨1, ![128]⟩
abbrev S100x128x4096 : Shape := ⟨3, ![100, 128, 4096]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S128x128 .f32) (main_arg1 : FVec F S128x128 .f32) (main_arg2 : FVec F S100x128 .f32) (main_arg3 : IVec S128 32) (main_arg4 : FVec F S100x128x4096 .f32) : IVec S128 1 :=
  let main_c : IVec S_ 32 := constantI S_ 32 0#32
  let main_v0 : IVec S128 32 := broadcastInDim S128 ![] bcast_S_S128 main_c
  let main_v1 : IVec S128 1 := cmpi .sge main_arg3 main_v0
  let main_c_0 : IVec S_ 32 := constantI S_ 32 100#32
  let main_v2 : IVec S128 32 := broadcastInDim S128 ![] bcast_S_S128 main_c_0
  let main_v3 : IVec S128 1 := cmpi .slt main_arg3 main_v2
  let main_v4 : IVec S128 1 := andi main_v1 main_v3
  main_v4
-- ==== Kernel.lean ====
abbrev S128x128 : Shape := ⟨2, ![128, 128]⟩
abbrev S100x128 : Shape := ⟨2, ![100, 128]⟩
abbrev S128 : Shape := ⟨1, ![128]⟩
abbrev S100x128x4096 : Shape := ⟨3, ![100, 128, 4096]⟩
abbrev S1x128 : Shape := ⟨2, ![1, 128]⟩
abbrev S128x1 : Shape := ⟨2, ![128, 1]⟩
abbrev S1x1 : Shape := ⟨2, ![1, 1]⟩
abbrev S8x128x4096 : Shape := ⟨3, ![8, 128, 4096]⟩
abbrev S128x4096 : Shape := ⟨2, ![128, 4096]⟩
abbrev S8x128 : Shape := ⟨2, ![8, 128]⟩
abbrev S8 : Shape := ⟨1, ![8]⟩
abbrev S_ : Shape := ⟨0, ![]⟩
abbrev S1x128x1 : Shape := ⟨3, ![1, 128, 1]⟩
abbrev S1 : Shape := ⟨1, ![1]⟩
abbrev S1x1x1 : Shape := ⟨3, ![1, 1, 1]⟩
abbrev S1x128x4096 : Shape := ⟨3, ![1, 128, 4096]⟩
abbrev S1x4096 : Shape := ⟨2, ![1, 4096]⟩
abbrev S32x4096 : Shape := ⟨2, ![32, 4096]⟩
abbrev S32x128 : Shape := ⟨2, ![32, 128]⟩
abbrev S32 : Shape := ⟨1, ![32]⟩
abbrev S32x1 : Shape := ⟨2, ![32, 1]⟩

abbrev nBuf : Space → Nat
  | .hbm => 9
  | .vmem => 10
  | .smem => 1
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S100x128, .f32⟩
  | .hbm, ⟨3, _⟩ => ⟨S128, .i32⟩
  | .hbm, ⟨4, _⟩ => ⟨S100x128x4096, .f32⟩
  | .hbm, ⟨5, _⟩ => ⟨S1x128, .i32⟩
  | .hbm, ⟨6, _⟩ => ⟨S128x1, .i32⟩
  | .hbm, ⟨7, _⟩ => ⟨S1x1, .f32⟩
  | .hbm, ⟨8, _⟩ => ⟨S_, .f32⟩
  | .local _ .vmem, ⟨0, _⟩ => ⟨S1x128, .i32⟩
  | .local _ .vmem, ⟨1, _⟩ => ⟨S128x1, .i32⟩
  | .local _ .vmem, ⟨2, _⟩ => ⟨S128x128, .f32⟩
  | .local _ .vmem, ⟨3, _⟩ => ⟨S128x128, .f32⟩
  | .local _ .vmem, ⟨4, _⟩ => ⟨S1x1, .f32⟩
  | .local _ .vmem, ⟨5, _⟩ => ⟨S8x128x4096, .f32⟩
  | .local _ .vmem, ⟨6, _⟩ => ⟨S128x4096, .f32⟩
  | .local _ .vmem, ⟨7, _⟩ => ⟨S128x128, .f32⟩
  | .local _ .vmem, ⟨8, _⟩ => ⟨S128x1, .f32⟩
  | .local _ .vmem, ⟨9, _⟩ => ⟨S8x128, .i32⟩
  | .local _ .smem, ⟨0, _⟩ => ⟨S8x128, .i32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_off1 (v101 : BitVec 32) : Fin 3 → Nat :=
  let c0_i32_31 : BitVec 32 := 0#32
  let c0_i32_32 : BitVec 32 := 0#32
  ![v101.toNat, 0, 0]

def k0_chk1 (v101 : BitVec 32) : Prop :=
  (∀ a, (k0_off1 v101) a + S1x128x4096.size a ≤ S100x128x4096.size a)
theorem k0_off1_inb : ∀ (v101 : BitVec 32) (k0_hw1 : k0_chk1 v101), ∀ a, (k0_off1 v101) a + S1x128x4096.size a ≤ S100x128x4096.size a := fun v101 k0_hw1 => k0_hw1

def k0_off2 (v135 : BitVec 32) : Fin 3 → Nat :=
  let c0_i32_55 : BitVec 32 := 0#32
  let c0_i32_56 : BitVec 32 := 0#32
  ![v135.toNat, 0, 0]
def k0_cond1 (v100 : BitVec 32) : BitVec 1 :=
  let c1_i32_33 : BitVec 32 := 1#32
  let v108 : BitVec 1 := Scalar.cmpi .sgt v100 c1_i32_33
  let v109 : BitVec 32 := Scalar.extui v108
  let c0_i32_34 : BitVec 32 := 0#32
  let v110 : BitVec 1 := Scalar.cmpi .ne v109 c0_i32_34
  v110

def k0_chk2 (v100 : BitVec 32) (v135 : BitVec 32) : Prop :=
  (∀ (k0_h1 : k0_cond1 v100 = 1#1), ∀ a, (k0_off2 v135) a + S1x128x4096.size a ≤ S100x128x4096.size a)
theorem k0_off2_inb : ∀ (v100 : BitVec 32) (v135 : BitVec 32) (k0_hw2 : k0_chk2 v100 v135), ∀ (k0_h1 : k0_cond1 v100 = 1#1), ∀ a, (k0_off2 v135) a + S1x128x4096.size a ≤ S100x128x4096.size a := fun v100 v135 k0_hw2 k0_h1 => k0_hw2 k0_h1

def k0_off3 (v135 : BitVec 32) : Fin 3 → Nat :=
  let c0_i32_55 : BitVec 32 := 0#32
  let c0_i32_56 : BitVec 32 := 0#32
  ![v135.toNat, 0, 0]
def k0_cond2 (v100 : BitVec 32) : BitVec 1 :=
  let c2_i32 : BitVec 32 := 2#32
  let v111 : BitVec 1 := Scalar.cmpi .sgt v100 c2_i32
  let v112 : BitVec 32 := Scalar.extui v111
  let c0_i32_35 : BitVec 32 := 0#32
  let v113 : BitVec 1 := Scalar.cmpi .ne v112 c0_i32_35
  v113

def k0_chk3 (v100 : BitVec 32) (v135 : BitVec 32) : Prop :=
  (∀ (k0_h2 : k0_cond2 v100 = 1#1), ∀ a, (k0_off3 v135) a + S1x128x4096.size a ≤ S100x128x4096.size a)
theorem k0_off3_inb : ∀ (v100 : BitVec 32) (v135 : BitVec 32) (k0_hw3 : k0_chk3 v100 v135), ∀ (k0_h2 : k0_cond2 v100 = 1#1), ∀ a, (k0_off3 v135) a + S1x128x4096.size a ≤ S100x128x4096.size a := fun v100 v135 k0_hw3 k0_h2 => k0_hw3 k0_h2

def k0_off4 (v135 : BitVec 32) : Fin 3 → Nat :=
  let c0_i32_55 : BitVec 32 := 0#32
  let c0_i32_56 : BitVec 32 := 0#32
  ![v135.toNat, 0, 0]
def k0_cond3 (v100 : BitVec 32) : BitVec 1 :=
  let c3_i32 : BitVec 32 := 3#32
  let v114 : BitVec 1 := Scalar.cmpi .sgt v100 c3_i32
  let v115 : BitVec 32 := Scalar.extui v114
  let c0_i32_36 : BitVec 32 := 0#32
  let v116 : BitVec 1 := Scalar.cmpi .ne v115 c0_i32_36
  v116

def k0_chk4 (v100 : BitVec 32) (v135 : BitVec 32) : Prop :=
  (∀ (k0_h3 : k0_cond3 v100 = 1#1), ∀ a, (k0_off4 v135) a + S1x128x4096.size a ≤ S100x128x4096.size a)
theorem k0_off4_inb : ∀ (v100 : BitVec 32) (v135 : BitVec 32) (k0_hw4 : k0_chk4 v100 v135), ∀ (k0_h3 : k0_cond3 v100 = 1#1), ∀ a, (k0_off4 v135) a + S1x128x4096.size a ≤ S100x128x4096.size a := fun v100 v135 k0_hw4 k0_h3 => k0_hw4 k0_h3

def k0_off5 (v135 : BitVec 32) : Fin 3 → Nat :=
  let c0_i32_55 : BitVec 32 := 0#32
  let c0_i32_56 : BitVec 32 := 0#32
  ![v135.toNat, 0, 0]
def k0_cond4 (v100 : BitVec 32) : BitVec 1 :=
  let c4_i32 : BitVec 32 := 4#32
  let v117 : BitVec 1 := Scalar.cmpi .sgt v100 c4_i32
  let v118 : BitVec 32 := Scalar.extui v117
  let c0_i32_37 : BitVec 32 := 0#32
  let v119 : BitVec 1 := Scalar.cmpi .ne v118 c0_i32_37
  v119

def k0_chk5 (v100 : BitVec 32) (v135 : BitVec 32) : Prop :=
  (∀ (k0_h4 : k0_cond4 v100 = 1#1), ∀ a, (k0_off5 v135) a + S1x128x4096.size a ≤ S100x128x4096.size a)
theorem k0_off5_inb : ∀ (v100 : BitVec 32) (v135 : BitVec 32) (k0_hw5 : k0_chk5 v100 v135), ∀ (k0_h4 : k0_cond4 v100 = 1#1), ∀ a, (k0_off5 v135) a + S1x128x4096.size a ≤ S100x128x4096.size a := fun v100 v135 k0_hw5 k0_h4 => k0_hw5 k0_h4

def k0_off6 (v135 : BitVec 32) : Fin 3 → Nat :=
  let c0_i32_54 : BitVec 32 := 0#32
  let c0_i32_55 : BitVec 32 := 0#32
  ![v135.toNat, 0, 0]
def k0_cond5 (v100 : BitVec 32) : BitVec 1 :=
  let c5_i32 : BitVec 32 := 5#32
  let v120 : BitVec 1 := Scalar.cmpi .sgt v100 c5_i32
  let v121 : BitVec 32 := Scalar.extui v120
  let c0_i32_38 : BitVec 32 := 0#32
  let v122 : BitVec 1 := Scalar.cmpi .ne v121 c0_i32_38
  v122

def k0_chk6 (v100 : BitVec 32) (v135 : BitVec 32) : Prop :=
  (∀ (k0_h5 : k0_cond5 v100 = 1#1), ∀ a, (k0_off6 v135) a + S1x128x4096.size a ≤ S100x128x4096.size a)
theorem k0_off6_inb : ∀ (v100 : BitVec 32) (v135 : BitVec 32) (k0_hw6 : k0_chk6 v100 v135), ∀ (k0_h5 : k0_cond5 v100 = 1#1), ∀ a, (k0_off6 v135) a + S1x128x4096.size a ≤ S100x128x4096.size a := fun v100 v135 k0_hw6 k0_h5 => k0_hw6 k0_h5

def k0_off7 (v135 : BitVec 32) : Fin 3 → Nat :=
  let c0_i32_54 : BitVec 32 := 0#32
  let c0_i32_55 : BitVec 32 := 0#32
  ![v135.toNat, 0, 0]
def k0_cond6 (v100 : BitVec 32) : BitVec 1 :=
  let c6_i32 : BitVec 32 := 6#32
  let v123 : BitVec 1 := Scalar.cmpi .sgt v100 c6_i32
  let v124 : BitVec 32 := Scalar.extui v123
  let c0_i32_39 : BitVec 32 := 0#32
  let v125 : BitVec 1 := Scalar.cmpi .ne v124 c0_i32_39
  v125

def k0_chk7 (v100 : BitVec 32) (v135 : BitVec 32) : Prop :=
  (∀ (k0_h6 : k0_cond6 v100 = 1#1), ∀ a, (k0_off7 v135) a + S1x128x4096.size a ≤ S100x128x4096.size a)
theorem k0_off7_inb : ∀ (v100 : BitVec 32) (v135 : BitVec 32) (k0_hw7 : k0_chk7 v100 v135), ∀ (k0_h6 : k0_cond6 v100 = 1#1), ∀ a, (k0_off7 v135) a + S1x128x4096.size a ≤ S100x128x4096.size a := fun v100 v135 k0_hw7 k0_h6 => k0_hw7 k0_h6

@[reducible] def k0_t1_loop : Scf.Loop 32 :=
  let c0_i32_40 : BitVec 32 := 0#32
  let c128_i32 : BitVec 32 := 128#32
  let v126 : BitVec 32 := Scalar.addi c0_i32_40 c128_i32
  let c1_i32_41 : BitVec 32 := 1#32
  ⟨c0_i32_40, v126, c1_i32_41⟩
def k0_off8 (k0_t1 : Fin k0_t1_loop.trips) : Fin 2 → Nat :=
  let c1_49 : Index := 1#32
  let c0_i32_40 : BitVec 32 := 0#32
  let c1_i32_41 : BitVec 32 := 1#32
  let arg15 : BitVec 32 := Scf.iv c0_i32_40 c1_i32_41 k0_t1
  let v135 : Index := Scalar.indexCast arg15
  ![1, v135.toNat]
def k0_off9 (k0_t1 : Fin k0_t1_loop.trips) : Fin 2 → Nat :=
  let c4_50 : Index := 4#32
  let c0_i32_40 : BitVec 32 := 0#32
  let c1_i32_41 : BitVec 32 := 1#32
  let arg15 : BitVec 32 := Scf.iv c0_i32_40 c1_i32_41 k0_t1
  let v137 : Index := Scalar.indexCast arg15
  ![4, v137.toNat]
def k0_off10 (k0_t1 : Fin k0_t1_loop.trips) : Fin 2 → Nat :=
  let c2_51 : Index := 2#32
  let c0_i32_40 : BitVec 32 := 0#32
  let c1_i32_41 : BitVec 32 := 1#32
  let arg15 : BitVec 32 := Scf.iv c0_i32_40 c1_i32_41 k0_t1
  let v139 : Index := Scalar.indexCast arg15
  ![2, v139.toNat]
def k0_off11 (v136 : BitVec 32) : Fin 2 → Nat :=
  let c0_68 : Index := 0#32
  let v177 : Index := Scalar.indexCast v136
  ![0, v177.toNat]
def k0_cond7 (v140 : BitVec 32) : BitVec 1 :=
  let c1_i32_52 : BitVec 32 := 1#32
  let v141 : BitVec 1 := Scalar.cmpi .eq v140 c1_i32_52
  let v142 : BitVec 32 := Scalar.extui v141
  let c0_i32_53 : BitVec 32 := 0#32
  let v143 : BitVec 1 := Scalar.cmpi .ne v142 c0_i32_53
  v143

def k0_off12 (v136 : BitVec 32) : Fin 1 → Nat :=
  let c8_i32_75 : BitVec 32 := 8#32
  let c0_i32_76 : BitVec 32 := 0#32
  let v189 : BitVec 1 := Scalar.cmpi .eq c8_i32_75 c0_i32_76
  let c1_i32_77 : BitVec 32 := 1#32
  let v190 : BitVec 32 := Scalar.select v189 c1_i32_77 c8_i32_75
  let v191 : BitVec 32 := Scalar.remsi v136 v190
  let c0_i32_79 : BitVec 32 := 0#32
  let v193 : BitVec 1 := Scalar.cmpi .slt v191 c0_i32_79
  let c0_i32_80 : BitVec 32 := 0#32
  let v194 : BitVec 1 := Scalar.cmpi .slt v190 c0_i32_80
  let v195 : BitVec 1 := Scalar.xori v193 v194
  let c0_i32_78 : BitVec 32 := 0#32
  let v192 : BitVec 1 := Scalar.cmpi .ne v191 c0_i32_78
  let v196 : BitVec 1 := Scalar.andi v195 v192
  let v197 : BitVec 32 := Scalar.addi v191 v190
  let v198 : BitVec 32 := Scalar.select v196 v197 v191
  ![v198.toNat]
def k0_off13 (v136 : BitVec 32) : Fin 3 → Nat :=
  let c8_i32_69 : BitVec 32 := 8#32
  let c0_i32_70 : BitVec 32 := 0#32
  let v179 : BitVec 1 := Scalar.cmpi .eq c8_i32_69 c0_i32_70
  let c1_i32_71 : BitVec 32 := 1#32
  let v180 : BitVec 32 := Scalar.select v179 c1_i32_71 c8_i32_69
  let v181 : BitVec 32 := Scalar.remsi v136 v180
  let c0_i32_73 : BitVec 32 := 0#32
  let v183 : BitVec 1 := Scalar.cmpi .slt v181 c0_i32_73
  let c0_i32_74 : BitVec 32 := 0#32
  let v184 : BitVec 1 := Scalar.cmpi .slt v180 c0_i32_74
  let v185 : BitVec 1 := Scalar.xori v183 v184
  let c0_i32_72 : BitVec 32 := 0#32
  let v182 : BitVec 1 := Scalar.cmpi .ne v181 c0_i32_72
  let v186 : BitVec 1 := Scalar.andi v185 v182
  let v187 : BitVec 32 := Scalar.addi v181 v180
  let v188 : BitVec 32 := Scalar.select v186 v187 v181
  let c0_i32_81 : BitVec 32 := 0#32
  let c0_i32_82 : BitVec 32 := 0#32
  ![v188.toNat, 0, 0]
def k0_off14 (v178 : BitVec 32) : Fin 3 → Nat :=
  let c0_i32_83 : BitVec 32 := 0#32
  let c0_i32_84 : BitVec 32 := 0#32
  ![v178.toNat, 0, 0]

def k0_chk9 (v140 : BitVec 32) (v178 : BitVec 32) : Prop :=
  (∀ (k0_h7 : k0_cond7 v140 = 1#1), ∀ a, (k0_off14 v178) a + S1x128x4096.size a ≤ S100x128x4096.size a)
theorem k0_off14_inb : ∀ (v140 : BitVec 32) (v178 : BitVec 32) (k0_hw9 : k0_chk9 v140 v178), ∀ (k0_h7 : k0_cond7 v140 = 1#1), ∀ a, (k0_off14 v178) a + S1x128x4096.size a ≤ S100x128x4096.size a := fun v140 v178 k0_hw9 k0_h7 => k0_hw9 k0_h7

def k0_off15 (v136 : BitVec 32) : Fin 2 → Nat :=
  let c0_90 : Index := 0#32
  let c8_i32_88 : BitVec 32 := 8#32
  let v210 : BitVec 32 := Scalar.addi v136 c8_i32_88
  let c1_i32_89 : BitVec 32 := 1#32
  let v211 : BitVec 32 := Scalar.subi v210 c1_i32_89
  let v212 : Index := Scalar.indexCast v211
  ![0, v212.toNat]
def k0_cond8 (v100 : BitVec 32) (v136 : BitVec 32) : BitVec 1 :=
  let c8_i32_85 : BitVec 32 := 8#32
  let v205 : BitVec 32 := Scalar.addi v136 c8_i32_85
  let c1_i32_86 : BitVec 32 := 1#32
  let v206 : BitVec 32 := Scalar.subi v205 c1_i32_86
  let v207 : BitVec 1 := Scalar.cmpi .slt v206 v100
  let v208 : BitVec 32 := Scalar.extui v207
  let c0_i32_87 : BitVec 32 := 0#32
  let v209 : BitVec 1 := Scalar.cmpi .ne v208 c0_i32_87
  v209

def k0_off16 (v136 : BitVec 32) : Fin 1 → Nat :=
  let c8_i32_88 : BitVec 32 := 8#32
  let v210 : BitVec 32 := Scalar.addi v136 c8_i32_88
  let c1_i32_89 : BitVec 32 := 1#32
  let v211 : BitVec 32 := Scalar.subi v210 c1_i32_89
  let c8_i32_97 : BitVec 32 := 8#32
  let c0_i32_98 : BitVec 32 := 0#32
  let v224 : BitVec 1 := Scalar.cmpi .eq c8_i32_97 c0_i32_98
  let c1_i32_99 : BitVec 32 := 1#32
  let v225 : BitVec 32 := Scalar.select v224 c1_i32_99 c8_i32_97
  let v226 : BitVec 32 := Scalar.remsi v211 v225
  let c0_i32_101 : BitVec 32 := 0#32
  let v228 : BitVec 1 := Scalar.cmpi .slt v226 c0_i32_101
  let c0_i32_102 : BitVec 32 := 0#32
  let v229 : BitVec 1 := Scalar.cmpi .slt v225 c0_i32_102
  let v230 : BitVec 1 := Scalar.xori v228 v229
  let c0_i32_100 : BitVec 32 := 0#32
  let v227 : BitVec 1 := Scalar.cmpi .ne v226 c0_i32_100
  let v231 : BitVec 1 := Scalar.andi v230 v227
  let v232 : BitVec 32 := Scalar.addi v226 v225
  let v233 : BitVec 32 := Scalar.select v231 v232 v226
  ![v233.toNat]
def k0_off17 (v136 : BitVec 32) : Fin 3 → Nat :=
  let c8_i32_88 : BitVec 32 := 8#32
  let v210 : BitVec 32 := Scalar.addi v136 c8_i32_88
  let c1_i32_89 : BitVec 32 := 1#32
  let v211 : BitVec 32 := Scalar.subi v210 c1_i32_89
  let c8_i32_91 : BitVec 32 := 8#32
  let c0_i32_92 : BitVec 32 := 0#32
  let v214 : BitVec 1 := Scalar.cmpi .eq c8_i32_91 c0_i32_92
  let c1_i32_93 : BitVec 32 := 1#32
  let v215 : BitVec 32 := Scalar.select v214 c1_i32_93 c8_i32_91
  let v216 : BitVec 32 := Scalar.remsi v211 v215
  let c0_i32_95 : BitVec 32 := 0#32
  let v218 : BitVec 1 := Scalar.cmpi .slt v216 c0_i32_95
  let c0_i32_96 : BitVec 32 := 0#32
  let v219 : BitVec 1 := Scalar.cmpi .slt v215 c0_i32_96
  let v220 : BitVec 1 := Scalar.xori v218 v219
  let c0_i32_94 : BitVec 32 := 0#32
  let v217 : BitVec 1 := Scalar.cmpi .ne v216 c0_i32_94
  let v221 : BitVec 1 := Scalar.andi v220 v217
  let v222 : BitVec 32 := Scalar.addi v216 v215
  let v223 : BitVec 32 := Scalar.select v221 v222 v216
  let c0_i32_103 : BitVec 32 := 0#32
  let c0_i32_104 : BitVec 32 := 0#32
  ![v223.toNat, 0, 0]

def k0_chk8 (v100 : BitVec 32) (v136 : BitVec 32) (v140 : BitVec 32) : Prop :=
  (∀ (k0_h7 : k0_cond7 v140 = 1#1), ∀ a, (k0_off11 v136) a + S1x1.size a ≤ S8x128.size a) ∧
  (∀ (k0_h7 : k0_cond7 v140 = 1#1), ∀ a, (k0_off12 v136) a + S1.size a ≤ S8.size a) ∧
  (∀ (k0_h7 : k0_cond7 v140 = 1#1), ∀ a, (k0_off13 v136) a + S1x128x4096.size a ≤ S8x128x4096.size a) ∧
  (∀ (k0_h7 : k0_cond7 v140 = 1#1), ∀ (k0_h8 : k0_cond8 v100 v136 = 1#1), ∀ a, (k0_off15 v136) a + S1x1.size a ≤ S8x128.size a) ∧
  (∀ (k0_h7 : k0_cond7 v140 = 1#1), ∀ (k0_h8 : k0_cond8 v100 v136 = 1#1), ∀ a, (k0_off16 v136) a + S1.size a ≤ S8.size a) ∧
  (∀ (k0_h7 : k0_cond7 v140 = 1#1), ∀ (k0_h8 : k0_cond8 v100 v136 = 1#1), ∀ a, (k0_off17 v136) a + S1x128x4096.size a ≤ S8x128x4096.size a)
theorem k0_off11_inb : ∀ (v100 : BitVec 32) (v136 : BitVec 32) (v140 : BitVec 32) (k0_hw8 : k0_chk8 v100 v136 v140), ∀ (k0_h7 : k0_cond7 v140 = 1#1), ∀ a, (k0_off11 v136) a + S1x1.size a ≤ S8x128.size a := fun v100 v136 v140 k0_hw8 k0_h7 => k0_hw8.1 k0_h7
theorem k0_off12_inb : ∀ (v100 : BitVec 32) (v136 : BitVec 32) (v140 : BitVec 32) (k0_hw8 : k0_chk8 v100 v136 v140), ∀ (k0_h7 : k0_cond7 v140 = 1#1), ∀ a, (k0_off12 v136) a + S1.size a ≤ S8.size a := fun v100 v136 v140 k0_hw8 k0_h7 => k0_hw8.2.1 k0_h7
theorem k0_off13_inb : ∀ (v100 : BitVec 32) (v136 : BitVec 32) (v140 : BitVec 32) (k0_hw8 : k0_chk8 v100 v136 v140), ∀ (k0_h7 : k0_cond7 v140 = 1#1), ∀ a, (k0_off13 v136) a + S1x128x4096.size a ≤ S8x128x4096.size a := fun v100 v136 v140 k0_hw8 k0_h7 => k0_hw8.2.2.1 k0_h7
theorem k0_off15_inb : ∀ (v100 : BitVec 32) (v136 : BitVec 32) (v140 : BitVec 32) (k0_hw8 : k0_chk8 v100 v136 v140), ∀ (k0_h7 : k0_cond7 v140 = 1#1), ∀ (k0_h8 : k0_cond8 v100 v136 = 1#1), ∀ a, (k0_off15 v136) a + S1x1.size a ≤ S8x128.size a := fun v100 v136 v140 k0_hw8 k0_h7 k0_h8 => k0_hw8.2.2.2.1 k0_h7 k0_h8
theorem k0_off16_inb : ∀ (v100 : BitVec 32) (v136 : BitVec 32) (v140 : BitVec 32) (k0_hw8 : k0_chk8 v100 v136 v140), ∀ (k0_h7 : k0_cond7 v140 = 1#1), ∀ (k0_h8 : k0_cond8 v100 v136 = 1#1), ∀ a, (k0_off16 v136) a + S1.size a ≤ S8.size a := fun v100 v136 v140 k0_hw8 k0_h7 k0_h8 => k0_hw8.2.2.2.2.1 k0_h7 k0_h8
theorem k0_off17_inb : ∀ (v100 : BitVec 32) (v136 : BitVec 32) (v140 : BitVec 32) (k0_hw8 : k0_chk8 v100 v136 v140), ∀ (k0_h7 : k0_cond7 v140 = 1#1), ∀ (k0_h8 : k0_cond8 v100 v136 = 1#1), ∀ a, (k0_off17 v136) a + S1x128x4096.size a ≤ S8x128x4096.size a := fun v100 v136 v140 k0_hw8 k0_h7 k0_h8 => k0_hw8.2.2.2.2.2 k0_h7 k0_h8

def k0_off18 (v213 : BitVec 32) : Fin 3 → Nat :=
  let c0_i32_105 : BitVec 32 := 0#32
  let c0_i32_106 : BitVec 32 := 0#32
  ![v213.toNat, 0, 0]

def k0_chk10 (v100 : BitVec 32) (v136 : BitVec 32) (v140 : BitVec 32) (v213 : BitVec 32) : Prop :=
  (∀ (k0_h7 : k0_cond7 v140 = 1#1), ∀ (k0_h8 : k0_cond8 v100 v136 = 1#1), ∀ a, (k0_off18 v213) a + S1x128x4096.size a ≤ S100x128x4096.size a)
theorem k0_off18_inb : ∀ (v100 : BitVec 32) (v136 : BitVec 32) (v140 : BitVec 32) (v213 : BitVec 32) (k0_hw10 : k0_chk10 v100 v136 v140 v213), ∀ (k0_h7 : k0_cond7 v140 = 1#1), ∀ (k0_h8 : k0_cond8 v100 v136 = 1#1), ∀ a, (k0_off18 v213) a + S1x128x4096.size a ≤ S100x128x4096.size a := fun v100 v136 v140 v213 k0_hw10 k0_h7 k0_h8 => k0_hw10 k0_h7 k0_h8

def k0_off19 (v138 : BitVec 32) : Fin 2 → Nat :=
  let v144 : Index := Scalar.indexCast v138
  let c0_54 : Index := 0#32
  ![v144.toNat, 0]

def k0_chk11 (v138 : BitVec 32) : Prop :=
  (∀ a, (k0_off19 v138) a + S1x128.size a ≤ S128x128.size a)
theorem k0_off19_inb : ∀ (v138 : BitVec 32) (k0_hw11 : k0_chk11 v138), ∀ a, (k0_off19 v138) a + S1x128.size a ≤ S128x128.size a := fun v138 k0_hw11 => k0_hw11

def k0_off20 (v136 : BitVec 32) : Fin 3 → Nat :=
  let c8_i32 : BitVec 32 := 8#32
  let c0_i32_57 : BitVec 32 := 0#32
  let v150 : BitVec 1 := Scalar.cmpi .eq c8_i32 c0_i32_57
  let c1_i32_58 : BitVec 32 := 1#32
  let v151 : BitVec 32 := Scalar.select v150 c1_i32_58 c8_i32
  let v152 : BitVec 32 := Scalar.remsi v136 v151
  let c0_i32_60 : BitVec 32 := 0#32
  let v154 : BitVec 1 := Scalar.cmpi .slt v152 c0_i32_60
  let c0_i32_61 : BitVec 32 := 0#32
  let v155 : BitVec 1 := Scalar.cmpi .slt v151 c0_i32_61
  let v156 : BitVec 1 := Scalar.xori v154 v155
  let c0_i32_59 : BitVec 32 := 0#32
  let v153 : BitVec 1 := Scalar.cmpi .ne v152 c0_i32_59
  let v157 : BitVec 1 := Scalar.andi v156 v153
  let v158 : BitVec 32 := Scalar.addi v152 v151
  let v159 : BitVec 32 := Scalar.select v157 v158 v152
  let v160 : Index := Scalar.indexCast v159
  let c0_62 : Index := 0#32
  let c0_63 : Index := 0#32
  ![v160.toNat, 0, 0]

def k0_chk12 (v136 : BitVec 32) : Prop :=
  (∀ a, (k0_off20 v136) a + S1x128x4096.size a ≤ S8x128x4096.size a)
theorem k0_off20_inb : ∀ (v136 : BitVec 32) (k0_hw12 : k0_chk12 v136), ∀ a, (k0_off20 v136) a + S1x128x4096.size a ≤ S8x128x4096.size a := fun v136 k0_hw12 => k0_hw12

def k0_off21 (k0_t1 : Fin k0_t1_loop.trips) : Fin 2 → Nat :=
  let c0_i32_40 : BitVec 32 := 0#32
  let c1_i32_41 : BitVec 32 := 1#32
  let arg15 : BitVec 32 := Scf.iv c0_i32_40 c1_i32_41 k0_t1
  let v164 : Index := Scalar.indexCast arg15
  let c0_65 : Index := 0#32
  ![v164.toNat, 0]
def k0_off22 (k0_t1 : Fin k0_t1_loop.trips) : Fin 2 → Nat :=
  let c0_i32_40 : BitVec 32 := 0#32
  let c1_i32_41 : BitVec 32 := 1#32
  let arg15 : BitVec 32 := Scf.iv c0_i32_40 c1_i32_41 k0_t1
  let v169 : Index := Scalar.indexCast arg15
  let c0_66 : Index := 0#32
  ![v169.toNat, 0]
def k0_cond9 (k0_t1 : Fin k0_t1_loop.trips) : BitVec 1 :=
  let c0_i32_40 : BitVec 32 := 0#32
  let c1_i32_41 : BitVec 32 := 1#32
  let arg15 : BitVec 32 := Scf.iv c0_i32_40 c1_i32_41 k0_t1
  let c32_i32 : BitVec 32 := 32#32
  let v173 : BitVec 32 := Scalar.remsi arg15 c32_i32
  let c31_i32 : BitVec 32 := 31#32
  let v174 : BitVec 1 := Scalar.cmpi .eq v173 c31_i32
  let v175 : BitVec 32 := Scalar.extui v174
  let c0_i32_67 : BitVec 32 := 0#32
  let v176 : BitVec 1 := Scalar.cmpi .ne v175 c0_i32_67
  v176

def k0_off23 (k0_t1 : Fin k0_t1_loop.trips) : Fin 2 → Nat :=
  let c0_i32_40 : BitVec 32 := 0#32
  let c1_i32_41 : BitVec 32 := 1#32
  let arg15 : BitVec 32 := Scf.iv c0_i32_40 c1_i32_41 k0_t1
  let c0_i32_69 : BitVec 32 := 0#32
  let v178 : BitVec 1 := Scalar.cmpi .sgt arg15 c0_i32_69
  let v179 : BitVec 32 := Scalar.extui v178
  let c0_i32_70 : BitVec 32 := 0#32
  let v180 : BitVec 1 := Scalar.cmpi .slt arg15 c0_i32_70
  let v181 : BitVec 32 := Scalar.extui v180
  let v182 : BitVec 32 := Scalar.subi v179 v181
  let c32_i32_68 : BitVec 32 := 32#32
  let c0_i32_71 : BitVec 32 := 0#32
  let v183 : BitVec 1 := Scalar.cmpi .sgt c32_i32_68 c0_i32_71
  let v184 : BitVec 32 := Scalar.extui v183
  let c0_i32_72 : BitVec 32 := 0#32
  let v185 : BitVec 1 := Scalar.cmpi .slt c32_i32_68 c0_i32_72
  let v186 : BitVec 32 := Scalar.extui v185
  let v187 : BitVec 32 := Scalar.subi v184 v186
  let v188 : BitVec 1 := Scalar.cmpi .ne v182 v187
  let v189 : BitVec 32 := Scalar.remsi arg15 c32_i32_68
  let c0_i32_73 : BitVec 32 := 0#32
  let v190 : BitVec 1 := Scalar.cmpi .ne v189 c0_i32_73
  let v191 : BitVec 1 := Scalar.andi v188 v190
  let v177 : BitVec 32 := Scalar.divsi arg15 c32_i32_68
  let c1_i32_74 : BitVec 32 := 1#32
  let v192 : BitVec 32 := Scalar.subi v177 c1_i32_74
  let v193 : BitVec 32 := Scalar.select v191 v192 v177
  let c32_i32_75 : BitVec 32 := 32#32
  let v194 : BitVec 32 := Scalar.muli v193 c32_i32_75
  let v195 : Index := Scalar.indexCast v194
  let c0_76 : Index := 0#32
  ![v195.toNat, 0]
def k0_off24 (k0_t1 : Fin k0_t1_loop.trips) : Fin 2 → Nat :=
  let c0_i32_40 : BitVec 32 := 0#32
  let c1_i32_41 : BitVec 32 := 1#32
  let arg15 : BitVec 32 := Scf.iv c0_i32_40 c1_i32_41 k0_t1
  let c0_i32_69 : BitVec 32 := 0#32
  let v178 : BitVec 1 := Scalar.cmpi .sgt arg15 c0_i32_69
  let v179 : BitVec 32 := Scalar.extui v178
  let c0_i32_70 : BitVec 32 := 0#32
  let v180 : BitVec 1 := Scalar.cmpi .slt arg15 c0_i32_70
  let v181 : BitVec 32 := Scalar.extui v180
  let v182 : BitVec 32 := Scalar.subi v179 v181
  let c32_i32_68 : BitVec 32 := 32#32
  let c0_i32_71 : BitVec 32 := 0#32
  let v183 : BitVec 1 := Scalar.cmpi .sgt c32_i32_68 c0_i32_71
  let v184 : BitVec 32 := Scalar.extui v183
  let c0_i32_72 : BitVec 32 := 0#32
  let v185 : BitVec 1 := Scalar.cmpi .slt c32_i32_68 c0_i32_72
  let v186 : BitVec 32 := Scalar.extui v185
  let v187 : BitVec 32 := Scalar.subi v184 v186
  let v188 : BitVec 1 := Scalar.cmpi .ne v182 v187
  let v189 : BitVec 32 := Scalar.remsi arg15 c32_i32_68
  let c0_i32_73 : BitVec 32 := 0#32
  let v190 : BitVec 1 := Scalar.cmpi .ne v189 c0_i32_73
  let v191 : BitVec 1 := Scalar.andi v188 v190
  let v177 : BitVec 32 := Scalar.divsi arg15 c32_i32_68
  let c1_i32_74 : BitVec 32 := 1#32
  let v192 : BitVec 32 := Scalar.subi v177 c1_i32_74
  let v193 : BitVec 32 := Scalar.select v191 v192 v177
  let c32_i32_75 : BitVec 32 := 32#32
  let v194 : BitVec 32 := Scalar.muli v193 c32_i32_75
  let v197 : Index := Scalar.indexCast v194
  let c0_77 : Index := 0#32
  ![v197.toNat, 0]
def k0_off25 (k0_t1 : Fin k0_t1_loop.trips) : Fin 2 → Nat :=
  let c0_i32_40 : BitVec 32 := 0#32
  let c1_i32_41 : BitVec 32 := 1#32
  let arg15 : BitVec 32 := Scf.iv c0_i32_40 c1_i32_41 k0_t1
  let c0_i32_69 : BitVec 32 := 0#32
  let v178 : BitVec 1 := Scalar.cmpi .sgt arg15 c0_i32_69
  let v179 : BitVec 32 := Scalar.extui v178
  let c0_i32_70 : BitVec 32 := 0#32
  let v180 : BitVec 1 := Scalar.cmpi .slt arg15 c0_i32_70
  let v181 : BitVec 32 := Scalar.extui v180
  let v182 : BitVec 32 := Scalar.subi v179 v181
  let c32_i32_68 : BitVec 32 := 32#32
  let c0_i32_71 : BitVec 32 := 0#32
  let v183 : BitVec 1 := Scalar.cmpi .sgt c32_i32_68 c0_i32_71
  let v184 : BitVec 32 := Scalar.extui v183
  let c0_i32_72 : BitVec 32 := 0#32
  let v185 : BitVec 1 := Scalar.cmpi .slt c32_i32_68 c0_i32_72
  let v186 : BitVec 32 := Scalar.extui v185
  let v187 : BitVec 32 := Scalar.subi v184 v186
  let v188 : BitVec 1 := Scalar.cmpi .ne v182 v187
  let v189 : BitVec 32 := Scalar.remsi arg15 c32_i32_68
  let c0_i32_73 : BitVec 32 := 0#32
  let v190 : BitVec 1 := Scalar.cmpi .ne v189 c0_i32_73
  let v191 : BitVec 1 := Scalar.andi v188 v190
  let v177 : BitVec 32 := Scalar.divsi arg15 c32_i32_68
  let c1_i32_74 : BitVec 32 := 1#32
  let v192 : BitVec 32 := Scalar.subi v177 c1_i32_74
  let v193 : BitVec 32 := Scalar.select v191 v192 v177
  let c32_i32_75 : BitVec 32 := 32#32
  let v194 : BitVec 32 := Scalar.muli v193 c32_i32_75
  let v215 : Index := Scalar.indexCast v194
  let c0_81 : Index := 0#32
  ![v215.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "inv_temp" => some ((134217728 / 9395241 : ℝ) : EReal)
  | _ => none
-- ==== ReferenceIdeal.lean ====
abbrev S128x128 : Shape := ⟨2, ![128, 128]⟩
abbrev S100x128 : Shape := ⟨2, ![100, 128]⟩
abbrev S128 : Shape := ⟨1, ![128]⟩
abbrev S100x128x4096 : Shape := ⟨3, ![100, 128, 4096]⟩
abbrev S128x1 : Shape := ⟨2, ![128, 1]⟩
abbrev S_ : Shape := ⟨0, ![]⟩
abbrev S128x100 : Shape := ⟨2, ![128, 100]⟩
abbrev S128x2 : Shape := ⟨2, ![128, 2]⟩
abbrev S128x100x1 : Shape := ⟨3, ![128, 100, 1]⟩
abbrev S128x1x128 : Shape := ⟨3, ![128, 1, 128]⟩
abbrev S128x100x128 : Shape := ⟨3, ![128, 100, 128]⟩
abbrev S128x4096 : Shape := ⟨2, ![128, 4096]⟩
abbrev S128x4097 : Shape := ⟨2, ![128, 4097]⟩

abbrev nBuf : Space → Nat
  | .hbm => 62
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S100x128, .f32⟩
  | .hbm, ⟨3, _⟩ => ⟨S128, .i32⟩
  | .hbm, ⟨4, _⟩ => ⟨S100x128x4096, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x100, .f32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i1⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128x1, .i32⟩
  | .hbm, ⟨25, _⟩ => ⟨S128x1, .i32⟩
  | .hbm, ⟨26, _⟩ => ⟨S128x2, .i32⟩
  | .hbm, ⟨27, _⟩ => ⟨S_, .f32⟩
  | .hbm, ⟨28, _⟩ => ⟨S128, .f32⟩
  | .hbm, ⟨29, _⟩ => ⟨S128x100, .f32⟩
  | .hbm, ⟨30, _⟩ => ⟨S128x100x1, .f32⟩
  | .hbm, ⟨31, _⟩ => ⟨S128x1x128, .f32⟩
  | .hbm, ⟨32, _⟩ => ⟨S128x100x128, .f32⟩
  | .hbm, ⟨33, _⟩ => ⟨S128x100x128, .f32⟩
  | .hbm, ⟨34, _⟩ => ⟨S128x100x128, .f32⟩
  | .hbm, ⟨35, _⟩ => ⟨S128x4096, .f32⟩
  | .hbm, ⟨36, _⟩ => ⟨S128x4097, .f32⟩
  | .hbm, ⟨37, _⟩ => ⟨S_, .f32⟩
  | .hbm, ⟨38, _⟩ => ⟨S128x4097, .f32⟩
  | .hbm, ⟨39, _⟩ => ⟨S128x4097, .f32⟩
  | .hbm, ⟨40, _⟩ => ⟨S_, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S128x1, .f32⟩
  | .hbm, ⟨46, _⟩ => ⟨S128x4097, .f32⟩
  | .hbm, ⟨47, _⟩ => ⟨S128x4097, .f32⟩
  | .hbm, ⟨48, _⟩ => ⟨S128x4097, .f32⟩
  | .hbm, ⟨49, _⟩ => ⟨S_, .f32⟩
  | .hbm, ⟨50, _⟩ => ⟨S128, .f32⟩
  | .hbm, ⟨51, _⟩ => ⟨S128x1, .f32⟩
  | .hbm, ⟨52, _⟩ => ⟨S128x1, .f32⟩
  | .hbm, ⟨53, _⟩ => ⟨S128x4097, .f32⟩
  | .hbm, ⟨54, _⟩ => ⟨S128x4097, .f32⟩
  | .hbm, ⟨55, _⟩ => ⟨S128x1, .f32⟩
  | .hbm, ⟨56, _⟩ => ⟨S128, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_call0_cst_0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_cst_1 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_cst_6 : Ref sig .tc := ⟨.hbm, 59, rfl⟩
abbrev main_v32 : Ref sig .tc := ⟨.hbm, 60, rfl⟩
abbrev main_v33 : Ref sig .tc := ⟨.hbm, 61, rfl⟩

abbrev nD : Nat := 1
abbrev τ : Topo := Topo.v7x

variable {F : FTy → Type} [FloatOps F]
-- ==== Proof.Sort.lean ====
module

public import Mathlib.Data.Fintype.Card
public import Mathlib.Data.Fintype.EquivFin
public import Mathlib.Algebra.BigOperators.Group.Finset.Basic
public import Mathlib.Algebra.BigOperators.Group.Finset.Piecewise
public import Idealize.ShloMosaic.Lib.WordSum

@[expose] public section

/-!
# Sorting by counting

`128` rows carry labels below `100`.  A row's place is the number of rows before it in the order of the labels, ties by
the row's number.  The first row of each label begins a segment, the segments are numbered along the places, and each
row's label is the class of the segment its place lies in.
-/

namespace Sorting

open Finset

variable (l : Fin 128 → Fin 100)

/-- A row's rank in the order, as one number. -/
def key (n : Fin 128) : ℕ := (l n).val * 128 + n.val

theorem key_lt_iff (j n : Fin 128) : key l j < key l n ↔ ((l j).val < (l n).val ∨ (l n).val = (l j).val ∧ j.val < n.val) := by
  have := j.isLt; have := n.isLt; unfold key; omega

theorem key_inj {j n : Fin 128} (h : key l j = key l n) : j = n := by
  have := j.isLt; have := n.isLt; unfold key at h; exact Fin.ext (by omega)

/-- A row's place: how many rows come before it. -/
def pos (n : Fin 128) : ℕ := (univ.filter fun j => key l j < key l n).card

theorem pos_lt (n : Fin 128) : pos l n < 128 := by
  have h : (univ.filter fun j => key l j < key l n) ⊂ (univ : Finset (Fin 128)) :=
    Finset.filter_ssubset.mpr ⟨n, mem_univ _, lt_irrefl _⟩
  have := Finset.card_lt_card h
  simpa [pos] using this

theorem pos_mono {m n : Fin 128} (h : key l m ≤ key l n) : pos l m ≤ pos l n :=
  card_le_card fun j hj => by
    simp only [mem_filter, mem_univ, true_and] at hj ⊢; omega

theorem pos_strict {m n : Fin 128} (h : key l m < key l n) : pos l m < pos l n := by
  refine card_lt_card ((ssubset_iff_of_subset fun j hj => ?_).mpr ⟨m, ?_, ?_⟩)
  · simp only [mem_filter, mem_univ, true_and] at hj ⊢; omega
  · simpa using h
  · simp

theorem pos_lt_iff (m n : Fin 128) : pos l m < pos l n ↔ key l m < key l n :=
  ⟨fun h => by by_contra h'; have := pos_mono l (not_lt.mp h'); omega, pos_strict l⟩

theorem pos_le_iff (m n : Fin 128) : pos l m ≤ pos l n ↔ key l m ≤ key l n := by
  rw [← not_lt, ← not_lt, pos_lt_iff]

theorem pos_inj {m n : Fin 128} (h : pos l m = pos l n) : m = n :=
  key_inj l (le_antisymm ((pos_le_iff l m n).mp h.le) ((pos_le_iff l n m).mp h.ge))

/-- Counting the rows after a row finds its place too. -/
theorem pos_after (n : Fin 128) : 127 - (univ.filter fun j => key l n < key l j).card = pos l n ∧ (univ.filter fun j => key l n < key l j).card ≤ 127 := by
  have h1 : (univ.filter fun j => key l j < key l n) ∪ (univ.filter fun j => key l n < key l j) = univ.erase n := by
    ext j
    simp only [mem_union, mem_filter, mem_univ, true_and, mem_erase, and_true]
    constructor
    · rintro h rfl; omega
    · intro h
      rcases lt_trichotomy (key l j) (key l n) with h' | h' | h'
      · exact .inl h'
      · exact absurd (key_inj l h') h
      · exact .inr h'
  have h2 : Disjoint (univ.filter fun j => key l j < key l n) (univ.filter fun j => key l n < key l j) := by
    rw [disjoint_left]; intro j hj hj'
    simp only [mem_filter, mem_univ, true_and] at hj hj'; omega
  have h3 := card_union_of_disjoint h2
  rw [h1, card_erase_of_mem (mem_univ _), card_univ, Fintype.card_fin] at h3
  unfold pos; omega

/-- The places as a permutation of the rows. -/
noncomputable def perm : Fin 128 ≃ Fin 128 :=
  Equiv.ofBijective (fun n => (⟨pos l n, pos_lt l n⟩ : Fin 128))
    (Finite.injective_iff_bijective.mp fun m n h => pos_inj l (by simpa using h))

/-- The row at a place. -/
noncomputable def ord (p : Fin 128) : Fin 128 := (perm l).symm p

theorem pos_ord (p : Fin 128) : pos l (ord l p) = p.val := congrArg Fin.val ((perm l).apply_symm_apply p)
theorem eq_ord {n p : Fin 128} (h : pos l n = p.val) : n = ord l p := pos_inj l (by rw [pos_ord, h])
theorem ord_pos (n : Fin 128) : ord l ⟨pos l n, pos_lt l n⟩ = n := (perm l).symm_apply_apply n
theorem ord_bijective : Function.Bijective (ord l) := (perm l).symm.bijective

/-- A row is the first of its label. -/
def first (n : Fin 128) : Prop := ∀ j, (l j).val = (l n).val → n.val ≤ j.val

instance : DecidablePred (first l) := fun n => by unfold first; infer_instance

theorem first_iff (n : Fin 128) : (univ.filter fun j : Fin 128 => (l n).val = (l j).val ∧ j.val < n.val).card = 0 ↔ first l n := by
  rw [card_eq_zero, filter_eq_empty_iff]
  exact ⟨fun h j e => not_lt.mp fun h' => h (mem_univ j) ⟨e.symm, h'⟩, fun h j _ e => by have := h j e.1.symm; omega⟩

/-- Every row has a first one of its label, not after it. -/
theorem exists_first (n : Fin 128) : ∃ m, first l m ∧ l m = l n ∧ m.val ≤ n.val := by
  have hne : (univ.filter fun j => l j = l n).Nonempty := ⟨n, by simp⟩
  refine ⟨(univ.filter fun j => l j = l n).min' hne, ?_, ?_, ?_⟩
  · intro j e
    have h1 := (mem_filter.mp (min'_mem _ hne)).2
    exact min'_le _ j (by simp only [mem_filter, mem_univ, true_and]; exact Fin.ext (e.trans (congrArg Fin.val h1)))
  · exact (mem_filter.mp (min'_mem _ hne)).2
  · exact min'_le _ n (by simp)

/-- How many segments begin at places before `k`. -/
def cnt (k : ℕ) : ℕ := (univ.filter fun n => first l n ∧ pos l n < k).card

theorem cnt_zero : cnt l 0 = 0 := by simp [cnt]

theorem cnt_succ (p : Fin 128) : cnt l (p.val + 1) = cnt l p.val + if first l (ord l p) then 1 else 0 := by
  unfold cnt
  have h : (univ.filter fun n => first l n ∧ pos l n < p.val + 1)
      = (univ.filter fun n => first l n ∧ pos l n < p.val) ∪ (univ.filter fun n => n = ord l p ∧ first l n) := by
    ext n
    simp only [mem_union, mem_filter, mem_univ, true_and]
    constructor
    · rintro ⟨h1, h2⟩
      rcases Nat.lt_succ_iff_lt_or_eq.mp h2 with h3 | h3
      · exact .inl ⟨h1, h3⟩
      · exact .inr ⟨eq_ord l h3, h1⟩
    · rintro (⟨h1, h2⟩ | ⟨rfl, h1⟩)
      · exact ⟨h1, by omega⟩
      · exact ⟨h1, by rw [pos_ord]; omega⟩
  rw [h, card_union_of_disjoint]
  · congr 1
    by_cases hf : first l (ord l p)
    · rw [if_pos hf, card_eq_one]
      exact ⟨ord l p, by ext n; simp only [mem_filter, mem_univ, true_and, mem_singleton]; exact ⟨fun h => h.1, fun h => ⟨h, h ▸ hf⟩⟩⟩
    · rw [if_neg hf, card_eq_zero, filter_eq_empty_iff]
      rintro n - ⟨rfl, h⟩; exact hf h
  · rw [disjoint_left]; intro n hn hn'
    simp only [mem_filter, mem_univ, true_and] at hn hn'
    rw [hn'.1, pos_ord] at hn; omega

/-- The number of segments. -/
theorem cnt_all : cnt l 128 = (univ.filter fun n => first l n).card := by
  unfold cnt
  exact congrArg card (filter_congr fun n _ => ⟨fun h => h.1, fun h => ⟨h, pos_lt l n⟩⟩)

/-- A row's segment, by its place. -/
def rk (n : Fin 128) : ℕ := (univ.filter fun m => first l m ∧ pos l m ≤ pos l n).card - 1

theorem rk_ord (p : Fin 128) : rk l (ord l p) = cnt l (p.val + 1) - 1 := by
  unfold rk cnt; rw [pos_ord]
  exact congrArg (fun S => card S - 1) (filter_congr fun m _ => by rw [Nat.lt_succ_iff])

theorem rk_pos (n : Fin 128) : 1 ≤ (univ.filter fun m => first l m ∧ pos l m ≤ pos l n).card := by
  obtain ⟨m, h1, h2, h3⟩ := exists_first l n
  refine card_pos.mpr ⟨m, ?_⟩
  simp only [mem_filter, mem_univ, true_and]
  refine ⟨h1, (pos_le_iff l m n).mpr ?_⟩
  unfold key; rw [h2]; omega

theorem rk_inj {m n : Fin 128} (hm : first l m) (hn : first l n) (h : rk l m = rk l n) : m = n := by
  have key : ∀ a b : Fin 128, first l b → pos l a < pos l b → rk l a < rk l b := by
    intro a b hb hab
    have h1 := rk_pos l a
    have h2 : (univ.filter fun m => first l m ∧ pos l m ≤ pos l a).card < (univ.filter fun m => first l m ∧ pos l m ≤ pos l b).card := by
      refine card_lt_card ((ssubset_iff_of_subset fun j hj => ?_).mpr ⟨b, ?_, ?_⟩)
      · simp only [mem_filter, mem_univ, true_and] at hj ⊢; exact ⟨hj.1, by omega⟩
      · simp only [mem_filter, mem_univ, true_and]; exact ⟨hb, le_rfl⟩
      · simp only [mem_filter, mem_univ, true_and]; rintro ⟨-, h⟩; omega
    unfold rk; omega
  rcases lt_trichotomy (pos l m) (pos l n) with h' | h' | h'
  · have := key m n hn h'; omega
  · exact pos_inj l h'
  · have := key n m hm h'; omega

/-- The class of a segment. -/
noncomputable def cls (s : ℕ) : Fin 100 := by
  classical
  exact if h : ∃ n, first l n ∧ rk l n = s then l h.choose else 0

theorem cls_rk {n : Fin 128} (hn : first l n) : cls l (rk l n) = l n := by
  unfold cls
  have h : ∃ n', first l n' ∧ rk l n' = rk l n := ⟨n, hn, rfl⟩
  rw [dif_pos h]
  exact congrArg l (rk_inj l h.choose_spec.1 hn h.choose_spec.2)

/-- Adding, over the rows, the label of the first row of segment `s` gives its class. -/
theorem sum_cls (s : ℕ) : (∑ n, if first l n ∧ rk l n = s then (l n).val else 0) = (cls l s).val := by
  by_cases h : ∃ n, first l n ∧ rk l n = s
  · obtain ⟨n, h1, rfl⟩ := h
    rw [cls_rk l h1, sum_eq_single n]
    · rw [if_pos ⟨h1, rfl⟩]
    · intro m _ hne; rw [if_neg]; rintro ⟨h2, h3⟩; exact hne (rk_inj l h2 h1 h3)
    · intro h; exact absurd (mem_univ n) h
  · unfold cls; rw [dif_neg h]
    exact sum_eq_zero fun n _ => if_neg fun h' => h ⟨n, h'⟩

/-- A row's label is the class of its segment. -/
theorem cls_seg (p : Fin 128) : cls l (cnt l (p.val + 1) - 1) = l (ord l p) := by
  rw [← rk_ord]
  obtain ⟨m, h1, h2, h3⟩ := exists_first l (ord l p)
  have e : rk l (ord l p) = rk l m := by
    unfold rk
    refine congrArg (fun S => card S - 1) (filter_congr fun j _ => ?_)
    refine and_congr_right fun hj => ?_
    rw [pos_le_iff, pos_le_iff]
    have hjm : (l j).val = (l m).val → j = m := fun e => Fin.ext (le_antisymm (hj m e.symm) (h1 j e))
    have h2' := congrArg Fin.val h2
    have a := j.isLt; have b := m.isLt; have c := (ord l p).isLt
    unfold key
    constructor
    · intro h
      by_cases e : (l j).val = (l m).val
      · rw [hjm e]
      · omega
    · intro h; omega
  rw [e, cls_rk l h1, h2]

/-- The row at a place, as a sum over the rows. -/
theorem sum_ord (p : Fin 128) : (∑ n : Fin 128, if pos l n = p.val then n.val else 0) = (ord l p).val := by
  rw [sum_eq_single (ord l p)]
  · rw [if_pos (pos_ord l p)]
  · intro m _ hne; rw [if_neg]; intro h; exact hne (eq_ord l h)
  · intro h; exact absurd (mem_univ _) h

/-- Whether a place begins a segment, as a count over the rows. -/
theorem card_first (p : Fin 128) : (univ.filter fun n => pos l n = p.val ∧ first l n).card = if first l (ord l p) then 1 else 0 := by
  by_cases hf : first l (ord l p)
  · rw [if_pos hf, card_eq_one]
    refine ⟨ord l p, ?_⟩
    ext n; simp only [mem_filter, mem_univ, true_and, mem_singleton]
    exact ⟨fun h => eq_ord l h.1, fun h => ⟨h ▸ pos_ord l p, h ▸ hf⟩⟩
  · rw [if_neg hf, card_eq_zero, filter_eq_empty_iff]
    rintro n - ⟨h1, h2⟩; exact hf (eq_ord l h1 ▸ h2)

theorem first_zero : first l (ord l 0) := by
  intro j e
  by_contra h
  have h1 : key l j < key l (ord l 0) := by unfold key; omega
  have h2 := pos_strict l h1
  rw [pos_ord] at h2
  exact absurd h2 (by simp)

end Sorting

end
-- ==== Proof.Counting.lean ====
/-
  Vectors of words as functions: a 128×128 vector, a column and a row are given by functions of their coordinates, and
  the operations the counting comparisons are made of (broadcasts, comparisons, sums over an axis) are read on them.
-/
module

public import Idealize.ShloMosaic.Lib.WordSum
public import Idealize.ShloMosaic.Lib.Pointwise.Reduce
public import Idealize.ShloMosaic.Lib.Pointwise.Reshape
public import Mathlib.Algebra.BigOperators.Group.Finset.Basic
public import Mathlib.Algebra.BigOperators.Group.Finset.Piecewise
public import Mathlib.Algebra.BigOperators.Ring.Finset

@[expose] public section

namespace Counting

open Idealize.ShloMosaic

abbrev M2 : Shape := ⟨2, ![128, 128]⟩
abbrev MC : Shape := ⟨2, ![128, 1]⟩
abbrev MR : Shape := ⟨2, ![1, 128]⟩
abbrev M1 : Shape := ⟨1, ![128]⟩

/-! ## Words -/

/-- The word of a number. -/
def w (n : ℕ) : BitVec 32 := BitVec.ofNat 32 n
/-- The bit of a statement. -/
def bit (P : Prop) [Decidable P] : BitVec 1 := if P then 1#1 else 0#1

theorem w_inj {a b : ℕ} (ha : a < 2 ^ 31) (hb : b < 2 ^ 31) : w a = w b ↔ a = b := by
  constructor
  · intro h
    have := congrArg BitVec.toNat h
    simp only [w, BitVec.toNat_ofNat] at this
    omega
  · rintro rfl; rfl

theorem bit_congr {P Q : Prop} [Decidable P] [Decidable Q] (h : P ↔ Q) : bit P = bit Q := by
  unfold bit; exact if_congr h rfl rfl

theorem w_toInt {a : ℕ} (ha : a < 2 ^ 31) : (w a).toInt = a := by
  unfold w
  rw [BitVec.toInt_eq_toNat_of_lt (by rw [BitVec.toNat_ofNat]; omega), BitVec.toNat_ofNat]
  omega

theorem ofBool_decide (P : Prop) [Decidable P] : BitVec.ofBool (decide P) = bit P := by
  unfold bit; by_cases h : P <;> simp [h]

theorem cmp_eq {a b : ℕ} (ha : a < 2 ^ 31) (hb : b < 2 ^ 31) : IntOp.cmpi .eq (w a) (w b) = bit (a = b) := by
  show BitVec.ofBool (decide (w a = w b)) = _
  rw [ofBool_decide]; exact bit_congr (w_inj ha hb)

theorem cmp_slt {a b : ℕ} (ha : a < 2 ^ 31) (hb : b < 2 ^ 31) : IntOp.cmpi .slt (w a) (w b) = bit (a < b) := by
  show BitVec.ofBool (decide ((w a).toInt < (w b).toInt)) = _
  rw [ofBool_decide, w_toInt ha, w_toInt hb]; exact bit_congr Int.ofNat_lt

theorem cmp_sgt {a b : ℕ} (ha : a < 2 ^ 31) (hb : b < 2 ^ 31) : IntOp.cmpi .sgt (w a) (w b) = bit (b < a) := by
  show BitVec.ofBool (decide ((w b).toInt < (w a).toInt)) = _
  rw [ofBool_decide, w_toInt ha, w_toInt hb]; exact bit_congr Int.ofNat_lt

theorem cmp_sle {a b : ℕ} (ha : a < 2 ^ 31) (hb : b < 2 ^ 31) : IntOp.cmpi .sle (w a) (w b) = bit (a ≤ b) := by
  show BitVec.ofBool (decide ((w a).toInt ≤ (w b).toInt)) = _
  rw [ofBool_decide, w_toInt ha, w_toInt hb]; exact bit_congr Int.ofNat_le

theorem bit_and (P Q : Prop) [Decidable P] [Decidable Q] : IntOp.andi (bit P) (bit Q) = bit (P ∧ Q) := by
  unfold bit; by_cases hp : P <;> by_cases hq : Q <;> simp [hp, hq, IntOp.andi]

theorem bit_or (P Q : Prop) [Decidable P] [Decidable Q] : IntOp.ori (bit P) (bit Q) = bit (P ∨ Q) := by
  unfold bit; by_cases hp : P <;> by_cases hq : Q <;> simp [hp, hq, IntOp.ori]

theorem bit_ext (P : Prop) [Decidable P] : (bit P).setWidth 32 = w (if P then 1 else 0) := by
  unfold bit w; by_cases hp : P <;> simp [hp]

theorem bit_sel (P : Prop) [Decidable P] (n : ℕ) : Scalar.select (bit P) (w n) (w 0) = w (if P then n else 0) := by
  unfold bit Scalar.select; by_cases hp : P <;> simp [hp]

theorem w_sub {a b : ℕ} (h : b ≤ a) : w a - w b = w (a - b) := by
  unfold w
  rw [sub_eq_iff_eq_add, ← BitVec.ofNat_add, Nat.sub_add_cancel h]

theorem w_sum {ι : Type} (s : Finset ι) (f : ι → ℕ) : ∑ i ∈ s, w (f i) = w (∑ i ∈ s, f i) := by
  classical
  induction s using Finset.induction_on with
  | empty => rfl
  | insert a s ha ih => rw [Finset.sum_insert ha, Finset.sum_insert ha, ih]; unfold w; rw [← BitVec.ofNat_add]

theorem sum_bits (P : Fin 128 → Prop) [DecidablePred P] : ∑ j, (bit (P j)).setWidth 32 = w (Finset.univ.filter P).card := by
  rw [Finset.card_filter, ← w_sum]
  exact Finset.sum_congr rfl fun j _ => bit_ext (P j)

theorem card_lt (P : Fin 128 → Prop) [DecidablePred P] : (Finset.univ.filter P).card < 2 ^ 31 :=
  lt_of_le_of_lt (Finset.card_le_univ _) (by rw [Fintype.card_fin]; norm_num)

/-! ## Vectors -/

section Vectors
variable {α : Type}

def mat (f : Fin 128 → Fin 128 → α) : M2.Idx → α := fun z => f (z 0) (z 1)
def col (f : Fin 128 → α) : MC.Idx → α := fun z => f (z 0)
def row (f : Fin 128 → α) : MR.Idx → α := fun z => f (z 1)

theorem mat_congr {f g : Fin 128 → Fin 128 → α} (h : ∀ n j, f n j = g n j) : mat f = mat g := funext fun z => h _ _
theorem col_congr {f g : Fin 128 → α} (h : ∀ n, f n = g n) : col f = col g := funext fun z => h _
theorem row_congr {f g : Fin 128 → α} (h : ∀ n, f n = g n) : row f = row g := funext fun z => h _

theorem bcast_col (f : Fin 128 → α) (h : MC.Broadcasts M2) : broadcastTo M2 (col f) h = mat fun n _ => f n := rfl
theorem cmpi_mat (p : CmpIPredicate) (f g : Fin 128 → Fin 128 → BitVec 32) :
    cmpi p (mat f) (mat g) = mat fun n j => IntOp.cmpi p (f n j) (g n j) := rfl
theorem andi_mat (P Q : Fin 128 → Fin 128 → Prop) [∀ n, DecidablePred (P n)] [∀ n, DecidablePred (Q n)] :
    andi (mat fun n j => bit (P n j)) (mat fun n j => bit (Q n j)) = mat fun n j => bit (P n j ∧ Q n j) := mat_congr fun _ _ => bit_and _ _
theorem ori_mat (P Q : Fin 128 → Fin 128 → Prop) [∀ n, DecidablePred (P n)] [∀ n, DecidablePred (Q n)] :
    ori (mat fun n j => bit (P n j)) (mat fun n j => bit (Q n j)) = mat fun n j => bit (P n j ∨ Q n j) := mat_congr fun _ _ => bit_or _ _
theorem bcast_row (f : Fin 128 → α) (h : MR.Broadcasts M2) : broadcastTo M2 (row f) h = mat fun _ j => f j := rfl

theorem iota_0 (h : M2.Iotas .tc 32 [0]) : iota .tc M2 32 [0] h = mat fun n _ => w n.val := by
  funext z; unfold iota mat w; simp
theorem iota_1 (h : M2.Iotas .tc 32 [1]) : iota .tc M2 32 [1] h = mat fun _ j => w j.val := by
  funext z; unfold iota mat w; simp

theorem sum_axis1 (f : Fin 128 → Fin 128 → BitVec 32) (h : M2.Reduces [1] M1) (hacc) (h' : M1.ShapeCasts MC) :
    shapeCast MC (multiReductionI .add [1] M1 (mat f) 0#32 h hacc) h' = col fun n => ∑ j, f n j := by
  rw [multiReductionI_eq_reduceFold]
  show shapeCast MC (reduceFold h (· + ·) (0#32 : BitVec 32) (mat f)) h' = _
  funext z
  simp only [pointwise]
  rw [reduceFold_add_eq_sum, show (0#32 : BitVec 32) = 0 from rfl, zero_add, Shape.Reduces.sum_fiber_r2_a1]
  rfl

theorem sum_axis0 (f : Fin 128 → Fin 128 → BitVec 32) (h : M2.Reduces [0] M1) (hacc) (h' : M1.ShapeCasts MR) :
    shapeCast MR (multiReductionI .add [0] M1 (mat f) 0#32 h hacc) h' = row fun j => ∑ n, f n j := by
  rw [multiReductionI_eq_reduceFold]
  show shapeCast MR (reduceFold h (· + ·) (0#32 : BitVec 32) (mat f)) h' = _
  funext z
  simp only [pointwise]
  rw [reduceFold_add_eq_sum, show (0#32 : BitVec 32) = 0 from rfl, zero_add, Shape.Reduces.sum_fiber_r2_a0]
  rfl

/-- The rows' counts: how many lanes of each row satisfy a statement. -/
theorem count1 (P : Fin 128 → Fin 128 → Prop) [∀ n, DecidablePred (P n)] (h : M2.Reduces [1] M1) (hacc) (h' : M1.ShapeCasts MC) (hlt) :
    shapeCast MC (multiReductionI .add [1] M1 (extui 32 (mat fun n j => bit (P n j)) hlt) 0#32 h hacc) h'
      = col fun n => w (Finset.univ.filter (P n)).card :=
  (sum_axis1 (fun n j => (bit (P n j)).setWidth 32) h hacc h').trans (col_congr fun n => sum_bits (P n))

/-- The lanes' counts: how many rows of each lane satisfy a statement. -/
theorem count0 (P : Fin 128 → Fin 128 → Prop) [∀ n, DecidablePred (P n)] (h : M2.Reduces [0] M1) (hacc) (h' : M1.ShapeCasts MR) (hlt) :
    shapeCast MR (multiReductionI .add [0] M1 (extui 32 (mat fun n j => bit (P n j)) hlt) 0#32 h hacc) h'
      = row fun j => w (Finset.univ.filter fun n => P n j).card := by
  refine (sum_axis0 (fun n j => (bit (P n j)).setWidth 32) h hacc h').trans (row_congr fun j => ?_)
  exact sum_bits fun n => P n j

theorem sum_whole (f : Fin 128 → BitVec 32) (h0 : MC.ShapeCasts ⟨3, ![1, 128, 1]⟩) (h : (⟨3, ![1, 128, 1]⟩ : Shape).Reduces [1, 2] ⟨1, ![1]⟩) (hacc)
    (h' : (⟨1, ![1]⟩ : Shape).ShapeCasts ⟨3, ![1, 1, 1]⟩) (hp) :
    extractAt ![0, 0, 0] (shapeCast ⟨3, ![1, 1, 1]⟩ (multiReductionI .add [1, 2] ⟨1, ![1]⟩ (shapeCast ⟨3, ![1, 128, 1]⟩ (col f) h0) 0#32 h hacc) h') hp
      = ∑ n, f n := by
  rw [multiReductionI_eq_reduceFold]
  show extractAt ![0, 0, 0] (shapeCast ⟨3, ![1, 1, 1]⟩ (reduceFold h (· + ·) (0#32 : BitVec 32) (shapeCast ⟨3, ![1, 128, 1]⟩ (col f) h0)) h') hp = _
  unfold extractAt shapeCast
  rw [reduceFold_add_eq_sum, show (0#32 : BitVec 32) = 0 from rfl, zero_add]
  rw [Finset.filter_true_of_mem fun i _ => funext fun a => by
    have : a = 0 := Subsingleton.elim (α := Fin 1) _ _
    subst this
    exact Subsingleton.elim (α := Fin 1) _ _]
  refine Fintype.sum_equiv ((Shape.reshapeEquiv h0).trans ⟨fun z => (z 0 : Fin 128), fun n => (fun a => match a with | 0 => n | 1 => (0 : Fin 1) : MC.Idx), fun z => ?_, fun n => rfl⟩) _ _ fun i => rfl
  funext a
  match a with
  | 0 => rfl
  | 1 => exact Subsingleton.elim (α := Fin 1) _ _

end Vectors

end Counting

end
-- ==== Proof.Labels.lean ====
/-
  What the preconditions say of the labels: each is a number below 100, so the labels are a function into the classes.
-/
module

public import proofs.«01_k».proof.Pre_labels_in_range
public import proofs.«01_k».proof.Pre_finite_and_in_range
public import proofs.«01_k».proof.Proof.Counting
public import Idealize.ShloMosaic.Lib.ReduceAll

@[expose] public section

noncomputable section

namespace Labels

open Idealize.ShloMosaic Counting

/-- Every label is the number of a class. -/
def InRange (x : IVec M1 32) : Prop := ∀ n, (x n).toNat < 100

/-- The labels as classes. -/
def classes (x : IVec M1 32) (n : Fin 128) : Fin 100 := ⟨(x (ix1 n)).toNat % 100, Nat.mod_lt _ (by decide)⟩

theorem w_classes {x : IVec M1 32} (hx : InRange x) (n : Fin 128) : w (classes x n).val = x (ix1 n) := by
  show BitVec.ofNat 32 ((x (ix1 n)).toNat % 100) = _
  rw [Nat.mod_eq_of_lt (hx _), BitVec.ofNat_toNat, BitVec.setWidth_eq]

theorem row_classes {x : IVec M1 32} (hx : InRange x) (h : M1.ShapeCasts MR) : shapeCast MR x h = row fun j => w (classes x j).val := by
  funext z
  simp only [pointwise]
  exact (w_classes hx _).symm

theorem col_classes {x : IVec M1 32} (hx : InRange x) (h : M1.ShapeCasts MC) : shapeCast MC x h = col fun j => w (classes x j).val := by
  funext z
  simp only [pointwise]
  exact (w_classes hx _).symm

/-- A word between the signed bounds 0 and 100 is a number below 100. -/
theorem below {a : BitVec 32} (h0 : IntOp.cmpi .sge a 0#32 = 1#1) (h1 : IntOp.cmpi .slt a 100#32 = 1#1) : a.toNat < 100 := by
  have e0 : (0#32).sle a = true := by
    by_contra h; simp only [Bool.not_eq_true] at h
    have h0 : BitVec.ofBool ((0#32).sle a) = 1#1 := h0
    rw [h] at h0; exact absurd h0 (by decide)
  have e1 : a.slt 100#32 = true := by
    by_contra h; simp only [Bool.not_eq_true] at h
    have h1 : BitVec.ofBool (a.slt 100#32) = 1#1 := h1
    rw [h] at h1; exact absurd h1 (by decide)
  rw [BitVec.sle_iff_toInt_le] at e0
  rw [BitVec.slt_iff_toInt_lt] at e1
  have e2 : (0#32).toInt = 0 := rfl
  have e3 : (100#32).toInt = 100 := rfl
  rw [e2] at e0; rw [e3] at e1
  rw [BitVec.toInt_eq_toNat_cond] at e0 e1
  split at e0 <;> omega

theorem and_one {a b : BitVec 1} (h : IntOp.andi a b = 1#1) : a = 1#1 ∧ b = 1#1 := by
  revert a b; decide

theorem inRange_of_labels [Cert.Pre_labels_in_range.Facts] {F : FTy → Type} [FloatOps F] {q k : FVec F M2 .f32} {wt x Q}
    (h : Cert.Pre_labels_in_range.fn (F := F) q k wt x Q = fun _ => 1#1) : InRange x := fun n =>
  have h1 := and_one (congrFun h n)
  below h1.1 h1.2

theorem inRange_of_finite [Cert.Pre_finite_and_in_range.Facts] {F : FTy → Type} [FloatOps F] {q k : FVec F M2 .f32} {wt x Q}
    (h : Cert.Pre_finite_and_in_range.fn (F := F) q k wt x Q = fun _ => 1#1) : InRange x := fun n =>
  have h1 := and_one (and_one (congrFun h n)).1
  below h1.1 h1.2

end Labels

end
-- ==== Proof.KernelIdeal.Words.lean ====
/-
  The word arithmetic of the kernel, decided: on a table word `s` below 128 the computed offsets are the plain numbers
  (`s % 8` for a ring slot, `s + 7` for the segment fetched ahead), and the guards are the plain comparisons.
-/
module

public import proofs.«01_k».proof.Proof.Gen.KernelIdeal.Skeleton

@[expose] public section

set_option maxRecDepth 16384

namespace Cert.KernelIdeal.Hand

open Cert.KernelIdeal Cert.KernelIdeal.Gen
open Idealize.ShloMosaic

/-- The word of a number. -/
abbrev wd (n : ℕ) : BitVec 32 := BitVec.ofNat 32 n

/-- A small number's word reads back. -/
theorem wd_toNat (n : ℕ) (h : n < 4294967296) : (wd n).toNat = n := by
  rw [BitVec.toNat_ofNat]; exact Nat.mod_eq_of_lt h

/-! ## The loop's 128 trips -/

theorem trips_eq : k0_t1_loop.trips = 128 := by decide +kernel

theorem trip_lt (k : Fin k0_t1_loop.trips) : k.val < 128 := lt_of_lt_of_eq k.isLt trips_eq

theorem off8_fin : ∀ k : Fin k0_t1_loop.trips, ∀ a, k0_off8 k a = (![1, k.val] : Fin 2 → ℕ) a := by decide +kernel
theorem off9_fin : ∀ k : Fin k0_t1_loop.trips, ∀ a, k0_off9 k a = (![4, k.val] : Fin 2 → ℕ) a := by decide +kernel
theorem off10_fin : ∀ k : Fin k0_t1_loop.trips, ∀ a, k0_off10 k a = (![2, k.val] : Fin 2 → ℕ) a := by decide +kernel
theorem off21_fin : ∀ k : Fin k0_t1_loop.trips, ∀ a, k0_off21 k a = (![k.val, 0] : Fin 2 → ℕ) a := by decide +kernel
theorem off22_fin : ∀ k : Fin k0_t1_loop.trips, ∀ a, k0_off22 k a = (![k.val, 0] : Fin 2 → ℕ) a := by decide +kernel
theorem off23_fin : ∀ k : Fin k0_t1_loop.trips, ∀ a, k0_off23 k a = (![32 * (k.val / 32), 0] : Fin 2 → ℕ) a := by decide +kernel
theorem off24_fin : ∀ k : Fin k0_t1_loop.trips, ∀ a, k0_off24 k a = (![32 * (k.val / 32), 0] : Fin 2 → ℕ) a := by decide +kernel
theorem off25_fin : ∀ k : Fin k0_t1_loop.trips, ∀ a, k0_off25 k a = (![32 * (k.val / 32), 0] : Fin 2 → ℕ) a := by decide +kernel
theorem cond9_iff : ∀ k : Fin k0_t1_loop.trips, k0_cond9 k = 1#1 ↔ k.val % 32 = 31 := by decide +kernel

theorem off8_eq (k : Fin k0_t1_loop.trips) : k0_off8 k = ![1, k.val] := funext (off8_fin k)
theorem off9_eq (k : Fin k0_t1_loop.trips) : k0_off9 k = ![4, k.val] := funext (off9_fin k)
theorem off10_eq (k : Fin k0_t1_loop.trips) : k0_off10 k = ![2, k.val] := funext (off10_fin k)
theorem off21_eq (k : Fin k0_t1_loop.trips) : k0_off21 k = ![k.val, 0] := funext (off21_fin k)
theorem off22_eq (k : Fin k0_t1_loop.trips) : k0_off22 k = ![k.val, 0] := funext (off22_fin k)
theorem off23_eq (k : Fin k0_t1_loop.trips) : k0_off23 k = ![32 * (k.val / 32), 0] := funext (off23_fin k)
theorem off24_eq (k : Fin k0_t1_loop.trips) : k0_off24 k = ![32 * (k.val / 32), 0] := funext (off24_fin k)
theorem off25_eq (k : Fin k0_t1_loop.trips) : k0_off25 k = ![32 * (k.val / 32), 0] := funext (off25_fin k)

/-! ## At a segment word below 128 -/

theorem off11_fin : ∀ s : Fin 128, ∀ a, k0_off11 (wd s.val) a = (![0, s.val] : Fin 2 → ℕ) a := by decide +kernel
theorem off12_fin : ∀ s : Fin 128, ∀ a, k0_off12 (wd s.val) a = (![s.val % 8] : Fin 1 → ℕ) a := by decide +kernel
theorem off13_fin : ∀ s : Fin 128, ∀ a, k0_off13 (wd s.val) a = (![s.val % 8, 0, 0] : Fin 3 → ℕ) a := by decide +kernel
theorem off15_fin : ∀ s : Fin 128, ∀ a, k0_off15 (wd s.val) a = (![0, s.val + 7] : Fin 2 → ℕ) a := by decide +kernel
theorem off16_fin : ∀ s : Fin 128, ∀ a, k0_off16 (wd s.val) a = (![(s.val + 7) % 8] : Fin 1 → ℕ) a := by decide +kernel
theorem off17_fin : ∀ s : Fin 128, ∀ a, k0_off17 (wd s.val) a = (![(s.val + 7) % 8, 0, 0] : Fin 3 → ℕ) a := by decide +kernel
theorem off20_fin : ∀ s : Fin 128, ∀ a, k0_off20 (wd s.val) a = (![s.val % 8, 0, 0] : Fin 3 → ℕ) a := by decide +kernel
theorem cond8_fin : ∀ n : Fin 129, ∀ s : Fin 128, k0_cond8 (wd n.val) (wd s.val) = 1#1 ↔ s.val + 7 < n.val := by decide +kernel

theorem off11_eq {s : ℕ} (h : s < 128) : k0_off11 (wd s) = ![0, s] := funext (off11_fin ⟨s, h⟩)
theorem off12_eq {s : ℕ} (h : s < 128) : k0_off12 (wd s) = ![s % 8] := funext (off12_fin ⟨s, h⟩)
theorem off13_eq {s : ℕ} (h : s < 128) : k0_off13 (wd s) = ![s % 8, 0, 0] := funext (off13_fin ⟨s, h⟩)
theorem off15_eq {s : ℕ} (h : s < 128) : k0_off15 (wd s) = ![0, s + 7] := funext (off15_fin ⟨s, h⟩)
theorem off16_eq {s : ℕ} (h : s < 128) : k0_off16 (wd s) = ![(s + 7) % 8] := funext (off16_fin ⟨s, h⟩)
theorem off17_eq {s : ℕ} (h : s < 128) : k0_off17 (wd s) = ![(s + 7) % 8, 0, 0] := funext (off17_fin ⟨s, h⟩)
theorem off20_eq {s : ℕ} (h : s < 128) : k0_off20 (wd s) = ![s % 8, 0, 0] := funext (off20_fin ⟨s, h⟩)
theorem cond8_iff {n s : ℕ} (hn : n ≤ 128) (h : s < 128) : k0_cond8 (wd n) (wd s) = 1#1 ↔ s + 7 < n :=
  cond8_fin ⟨n, by omega⟩ ⟨s, h⟩

theorem cond7_one : k0_cond7 1#32 = 1#1 := by decide +kernel
theorem cond7_zero : ¬ k0_cond7 0#32 = 1#1 := by decide +kernel

theorem cond1_fin : ∀ n : Fin 129, k0_cond1 (wd n.val) = 1#1 ↔ 1 < n.val := by decide +kernel
theorem cond2_fin : ∀ n : Fin 129, k0_cond2 (wd n.val) = 1#1 ↔ 2 < n.val := by decide +kernel
theorem cond3_fin : ∀ n : Fin 129, k0_cond3 (wd n.val) = 1#1 ↔ 3 < n.val := by decide +kernel
theorem cond4_fin : ∀ n : Fin 129, k0_cond4 (wd n.val) = 1#1 ↔ 4 < n.val := by decide +kernel
theorem cond5_fin : ∀ n : Fin 129, k0_cond5 (wd n.val) = 1#1 ↔ 5 < n.val := by decide +kernel
theorem cond6_fin : ∀ n : Fin 129, k0_cond6 (wd n.val) = 1#1 ↔ 6 < n.val := by decide +kernel

/-! ## At a class word below 100, and an order word below 128 -/

theorem cls_inb {cl : ℕ} (h : cl < 100) : ∀ a, (![cl, 0, 0] : Fin 3 → ℕ) a + S1x128x4096.size a ≤ S100x128x4096.size a := by
  intro a; fin_cases a
  · show cl + 1 ≤ 100; omega
  · show 0 + 128 ≤ 128; omega
  · show 0 + 4096 ≤ 4096; omega

theorem off1_eq {n : ℕ} (h : n < 4294967296) : k0_off1 (wd n) = ![n, 0, 0] := by unfold k0_off1; rw [wd_toNat n h]
theorem off2_eq {n : ℕ} (h : n < 4294967296) : k0_off2 (wd n) = ![n, 0, 0] := by unfold k0_off2; rw [wd_toNat n h]
theorem off3_eq {n : ℕ} (h : n < 4294967296) : k0_off3 (wd n) = ![n, 0, 0] := by unfold k0_off3; rw [wd_toNat n h]
theorem off4_eq {n : ℕ} (h : n < 4294967296) : k0_off4 (wd n) = ![n, 0, 0] := by unfold k0_off4; rw [wd_toNat n h]
theorem off5_eq {n : ℕ} (h : n < 4294967296) : k0_off5 (wd n) = ![n, 0, 0] := by unfold k0_off5; rw [wd_toNat n h]
theorem off6_eq {n : ℕ} (h : n < 4294967296) : k0_off6 (wd n) = ![n, 0, 0] := by unfold k0_off6; rw [wd_toNat n h]
theorem off7_eq {n : ℕ} (h : n < 4294967296) : k0_off7 (wd n) = ![n, 0, 0] := by unfold k0_off7; rw [wd_toNat n h]
theorem off14_eq {n : ℕ} (h : n < 4294967296) : k0_off14 (wd n) = ![n, 0, 0] := by unfold k0_off14; rw [wd_toNat n h]
theorem off18_eq {n : ℕ} (h : n < 4294967296) : k0_off18 (wd n) = ![n, 0, 0] := by unfold k0_off18; rw [wd_toNat n h]
theorem off19_fin : ∀ s : Fin 128, ∀ a, k0_off19 (wd s.val) a = (![s.val, 0] : Fin 2 → ℕ) a := by decide +kernel
theorem off19_eq {s : ℕ} (h : s < 128) : k0_off19 (wd s) = ![s, 0] := funext (off19_fin ⟨s, h⟩)

/-! ## The checks the body assumes -/

theorem row_inb {s : ℕ} (h : s < 128) : ∀ a, (![s, 0] : Fin 2 → ℕ) a + S1x128.size a ≤ S128x128.size a := by
  intro a; fin_cases a
  · show s + 1 ≤ 128; omega
  · show 0 + 128 ≤ 128; omega

theorem slot_inb (j : ℕ) (h : j < 8) : ∀ a, (![j, 0, 0] : Fin 3 → ℕ) a + S1x128x4096.size a ≤ S8x128x4096.size a := by
  intro a; fin_cases a
  · show j + 1 ≤ 8; omega
  · show 0 + 128 ≤ 128; omega
  · show 0 + 4096 ≤ 4096; omega

theorem cell_inb (j : ℕ) (h : j < 8) : ∀ a, (![j] : Fin 1 → ℕ) a + S1.size a ≤ S8.size a := by
  intro a; fin_cases a
  show j + 1 ≤ 8; omega

theorem tab_inb (r s : ℕ) (hr : r < 8) (h : s < 128) : ∀ a, (![r, s] : Fin 2 → ℕ) a + S1x1.size a ≤ S8x128.size a := by
  intro a; fin_cases a
  · show r + 1 ≤ 8; omega
  · show s + 1 ≤ 128; omega

theorem chk12_of {s : ℕ} (h : s < 128) : k0_chk12 (wd s) := by
  unfold k0_chk12; rw [off20_eq h]; exact slot_inb _ (Nat.mod_lt _ (by omega))
theorem chk11_of {s : ℕ} (h : s < 128) : k0_chk11 (wd s) := by
  unfold k0_chk11; rw [off19_eq h]; exact row_inb h
theorem chk8_of {n s : ℕ} (hn : n ≤ 128) (h : s < 128) (v : BitVec 32) : k0_chk8 (wd n) (wd s) v := by
  unfold k0_chk8
  refine ⟨fun _ => ?_, fun _ => ?_, fun _ => ?_, fun _ h8 => ?_, fun _ _ => ?_, fun _ _ => ?_⟩
  · rw [off11_eq h]; exact tab_inb 0 s (by omega) h
  · rw [off12_eq h]; exact cell_inb _ (Nat.mod_lt _ (by omega))
  · rw [off13_eq h]; exact slot_inb _ (Nat.mod_lt _ (by omega))
  · rw [off15_eq h]; exact tab_inb 0 _ (by omega) (by have := (cond8_iff hn h).mp h8; omega)
  · rw [off16_eq h]; exact cell_inb _ (Nat.mod_lt _ (by omega))
  · rw [off17_eq h]; exact slot_inb _ (Nat.mod_lt _ (by omega))
theorem chk9_of {cl : ℕ} (h : cl < 100) (v : BitVec 32) : k0_chk9 v (wd cl) := by
  unfold k0_chk9; rw [off14_eq (by omega)]; exact fun _ => cls_inb h
theorem chk10_of {cl : ℕ} (h : cl < 100) (v v' v'' : BitVec 32) : k0_chk10 v v' v'' (wd cl) := by
  unfold k0_chk10; rw [off18_eq (by omega)]; exact fun _ _ => cls_inb h
theorem chk1_of {cl : ℕ} (h : cl < 100) : k0_chk1 (wd cl) := by
  unfold k0_chk1; rw [off1_eq (by omega)]; exact cls_inb h
theorem chk2_of {cl : ℕ} (h : cl < 100) (v : BitVec 32) : k0_chk2 v (wd cl) := by
  unfold k0_chk2; rw [off2_eq (by omega)]; exact fun _ => cls_inb h
theorem chk3_of {cl : ℕ} (h : cl < 100) (v : BitVec 32) : k0_chk3 v (wd cl) := by
  unfold k0_chk3; rw [off3_eq (by omega)]; exact fun _ => cls_inb h
theorem chk4_of {cl : ℕ} (h : cl < 100) (v : BitVec 32) : k0_chk4 v (wd cl) := by
  unfold k0_chk4; rw [off4_eq (by omega)]; exact fun _ => cls_inb h
theorem chk5_of {cl : ℕ} (h : cl < 100) (v : BitVec 32) : k0_chk5 v (wd cl) := by
  unfold k0_chk5; rw [off5_eq (by omega)]; exact fun _ => cls_inb h
theorem chk6_of {cl : ℕ} (h : cl < 100) (v : BitVec 32) : k0_chk6 v (wd cl) := by
  unfold k0_chk6; rw [off6_eq (by omega)]; exact fun _ => cls_inb h
theorem chk7_of {cl : ℕ} (h : cl < 100) (v : BitVec 32) : k0_chk7 v (wd cl) := by
  unfold k0_chk7; rw [off7_eq (by omega)]; exact fun _ => cls_inb h

end Cert.KernelIdeal.Hand

end
-- ==== Proof.KernelIdeal.Ring.lean ====
/-
  The ring of eight buffers. A slot is either FLYING — the transfer of one class's slab of the queue is under way
  into it — or RESTING, possibly with a class's slab in it. The lemmas say what issuing a transfer into a resting slot,
  waiting on a flying one and loading from a resting one do to the ring's state.
-/
module

public import proofs.«01_k».proof.Proof.KernelIdeal.Words
public import proofs.«01_k».proof.Proof.Gen.KernelIdeal.Launch
public import proofs.«01_k».proof.Proof.Gen.KernelIdeal.Points
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

theorem entails_of_eq {P Q : sProp 𝕄} (e : P = Q) : P ⊢ Q := e ▸ .rfl

/-- No loop variants are needed: the one loop is counted. -/
abbrev 𝒱₀ : Variants := Variants.none

/-! ## Names: class `cl`'s slab of the queue, slot `j` of the ring, its cell -/

abbrev aM : Memref sig .tc .hbm S100x128x4096 .f32 := Memref.whole main_arg4
abbrev bufM : Memref sig .tc .vmem S8x128x4096 .f32 := Memref.whole cc0_scratch0

abbrev grpR (cl : Fin 100) : Rect S100x128x4096 := Rect.unit (s := S100x128x4096) ![cl.val, 0, 0] S1x128x4096.size (cls_inb cl.isLt)
abbrev slotR (j : Fin 8) : Rect S8x128x4096 := Rect.unit (s := S8x128x4096) ![j.val, 0, 0] S1x128x4096.size (slot_inb j.val j.isLt)

/-- Class `cl`'s slab, as the body slices and squeezes it. -/
def grp (cl : Fin 100) : Memref sig .tc .hbm S128x4096 .f32 :=
  (aM.slice (grpR cl) (fun _ => rfl)).squeeze S128x4096 squeezes_S1x128x4096_S128x4096
/-- Slot `j`, as the body slices and squeezes it. -/
def rslot (j : Fin 8) : Memref sig .tc .vmem S128x4096 .f32 :=
  (bufM.slice (slotR j) (fun _ => rfl)).squeeze S128x4096 squeezes_S1x128x4096_S128x4096
/-- Slot `j`'s semaphore. -/
def csm (j : Fin 8) : DmaSems sig S_ :=
  (cc0_scratch6.slice (Rect.unit (s := S8) ![j.val] S1.size (cell_inb j.val j.isLt))).squeeze S_ squeezes_S1_S_

theorem csm_congr {off : Fin 1 → ℕ} (j : Fin 8) (e : off = ![j.val]) (hh) :
    (cc0_scratch6.slice (Rect.unit (s := S8) off S1.size hh)).squeeze S_ squeezes_S1_S_ = csm j :=
  congrArg (fun A : DmaSems sig S1 => A.squeeze S_ squeezes_S1_S_) (SemArray.slice_unit_congr _ e _ _)
theorem rslot_congr {off : Fin 3 → ℕ} (j : Fin 8) (e : off = ![j.val, 0, 0]) (hh hs) :
    (bufM.slice (Rect.unit (s := S8x128x4096) off S1x128x4096.size hh) hs).squeeze S128x4096 squeezes_S1x128x4096_S128x4096 = rslot j :=
  congrArg (fun M : Memref sig .tc .vmem S1x128x4096 .f32 => M.squeeze S128x4096 squeezes_S1x128x4096_S128x4096) (Memref.slice_unit_congr _ e _ _ _ _)
theorem grp_congr {off : Fin 3 → ℕ} (cl : Fin 100) (e : off = ![cl.val, 0, 0]) (hh hs) :
    (aM.slice (Rect.unit (s := S100x128x4096) off S1x128x4096.size hh) hs).squeeze S128x4096 squeezes_S1x128x4096_S128x4096 = grp cl :=
  congrArg (fun M : Memref sig .tc .hbm S1x128x4096 .f32 => M.squeeze S128x4096 squeezes_S1x128x4096_S128x4096) (Memref.slice_unit_congr _ e _ _ _ _)

/-! ## A slot's state -/

/-- Slot `j`: flying with class `cl`'s slab, or resting, with the slab of a class in it or with anything. -/
inductive SlotSt where
  | fly (cl : Fin 100)
  | rest (kp : Option (Fin 100))

section Slots

variable (c : Dev nD) (Q : Buf (Elt F) (aM.view.loc (c : Thread nD τ)))

/-- Class `cl`'s slab as the vector a load of a slot that holds it reads. -/
def slab (cl : Fin 100) : Vec F S1x128x4096 .f32 := aM.view.readAt (Elt F) (grpR cl).toLoadRect Q

/-- The elements a transfer moves, by the semaphore's count. -/
abbrev amt (j : Fin 8) : ℕ := (rslot j).view.amount (SemLoc.dma (csm j).sem)

theorem amt_pos (j : Fin 8) : 0 < amt j := (rslot j).view.dmaCredit_pos (by decide)

/-- The share of the queue slot `j`'s transfers read with. -/
abbrev qsh (j : Fin 8) : PosShare TreeShare := Transfers.shareTokN fullShare j.val

abbrev cellP (j : Fin 8) : sProp 𝕄 := semVal ((c : Thread nD τ), SemLoc.dma (csm j).sem) 0
abbrev slotP (j : Fin 8) (f : Buf (Elt F) ((rslot j).view.loc (c : Thread nD τ))) : sProp 𝕄 :=
  (rslot j).view.loc (c : Thread nD τ) ↦[(rslot j).view.set]{fullShare} f
abbrev srcP (j : Fin 8) (cl : Fin 100) : sProp 𝕄 :=
  (grp cl).view.loc (c : Thread nD τ) ↦[(grp cl).view.set]{qsh j} Q
abbrev offP (j : Fin 8) (cl : Fin 100) : sProp 𝕄 :=
  (grp cl).view.loc (c : Thread nD τ) ↦[Finset.univ \ (grp cl).view.set]{qsh j} Q

/-- Slot `j` at contents from which a load through the whole ring reads class `cl`'s slab. -/
def heldP (j : Fin 8) (cl : Fin 100) : sProp 𝕄 :=
  iprop(∃ f : Buf (Elt F) ((rslot j).view.loc (c : Thread nD τ)),
    ⌜bufM.view.readAt (Elt F) (slotR j).toLoadRect f = slab c Q cl⌝ ∗ slotP c j f)

/-- What slot `j` holds in a state. -/
def slotS (j : Fin 8) : SlotSt → sProp 𝕄
  | .fly cl => iprop(Transfers.Flight countersEmb (c : Thread nD τ) (SemLoc.dma (csm j).sem) () (amt j)
      iprop(heldP c Q j cl ∗ srcP c Q j cl) ∗ offP c Q j cl)
  | .rest (some cl) => iprop(cellP c j ∗ (aM.view.loc (c : Thread nD τ) ↦[Finset.univ]{qsh j} Q) ∗ heldP c Q j cl)
  | .rest none => iprop(cellP c j ∗ (aM.view.loc (c : Thread nD τ) ↦[Finset.univ]{qsh j} Q) ∗ ∃ f, slotP c j f)

theorem slotS_fly (j : Fin 8) (cl : Fin 100) : slotS c Q j (.fly cl) = iprop(Transfers.Flight countersEmb (c : Thread nD τ) (SemLoc.dma (csm j).sem) () (amt j)
      iprop(heldP c Q j cl ∗ srcP c Q j cl) ∗ offP c Q j cl) := rfl
theorem slotS_held (j : Fin 8) (cl : Fin 100) : slotS c Q j (.rest (some cl)) = iprop(cellP c j ∗ (aM.view.loc (c : Thread nD τ) ↦[Finset.univ]{qsh j} Q) ∗ heldP c Q j cl) := rfl
theorem slotS_none (j : Fin 8) : slotS c Q j (.rest none) = iprop(cellP c j ∗ (aM.view.loc (c : Thread nD τ) ↦[Finset.univ]{qsh j} Q) ∗ ∃ f, slotP c j f) := rfl

/-- The ring in a state. -/
def ringS (σ : Fin 8 → SlotSt) : sProp 𝕄 := bigSep Finset.univ fun j => slotS c Q j (σ j)

theorem shapeCast_inj {s s' : Shape} {α : Type} (h : s.ShapeCasts s') (x y : s.Idx → α) (e : shapeCast s' x h = shapeCast s' y h) : x = y := by
  funext i
  have := congrFun e ((Shape.reshapeEquiv h).symm i)
  unfold shapeCast at this
  simpa using this

/-- A slot written with class `cl`'s slab reads it. -/
theorem landed (j : Fin 8) (cl : Fin 100) (f : Buf (Elt F) ((rslot j).view.loc (c : Thread nD τ))) :
    bufM.view.readAt (Elt F) (slotR j).toLoadRect ((rslot j).view.write (Elt F) f (ReadAs.same.apply ((grp cl).view.read (Elt F) Q)) Finset.univ)
      = slab c Q cl := by
  have h : (rslot j).view.read (Elt F) ((rslot j).view.write (Elt F) f (ReadAs.same.apply ((grp cl).view.read (Elt F) Q)) Finset.univ)
      = (grp cl).view.read (Elt F) Q := View.read_write_univ _ _
  exact shapeCast_inj (Shape.Squeezes.numel_eq squeezes_S1x128x4096_S128x4096) _ _ h

/-- Forget what a resting slot holds. -/
theorem slot_forget (j : Fin 8) (kp : Option (Fin 100)) : slotS c Q j (.rest kp) ⊢ slotS c Q j (.rest none) := by
  cases kp with
  | none => exact .rfl
  | some cl =>
    unfold slotS heldP
    iintro ⟨HC, HQ, ⟨%f, -, HS⟩⟩
    isplitl [HC]; · iexact HC
    isplitl [HQ]; · iexact HQ
    iexists f; iexact HS

/-- One slot out of the ring, and the ring back for any new state of it. -/
theorem ring_turn (σ : Fin 8 → SlotSt) (j : Fin 8) :
    ringS c Q σ ⊢ iprop(slotS c Q j (σ j) ∗ ∀ s, slotS c Q j s -∗ ringS c Q (Function.update σ j s)) :=
  bigSep_univ_turn (fun j (s : SlotSt) => slotS c Q j s) σ j

theorem ring_forget (σ : Fin 8 → SlotSt) (j : Fin 8) (kp : Option (Fin 100)) (h : σ j = .rest kp) :
    ringS c Q σ ⊢ ringS c Q (Function.update σ j (.rest none)) := by
  refine (ring_turn c Q σ j).trans ?_
  rw [h]
  iintro ⟨HS, HR⟩
  iapply HR
  iapply (slot_forget c Q j kp); iexact HS

end Slots

/-! ## The three operations on the ring -/

section Steps

variable (c : Dev nD) (Q : Buf (Elt F) (aM.view.loc (c : Thread nD τ)))

/-- A program of the body, from the core's thread. -/
abbrev WP {α : Type} (c : Dev nD) (p : Prog (TpuEff nD τ sig (Elt F) Λ₀ .tc) α) (Ψ : α → sProp 𝕄) : sProp 𝕄 :=
  wp frame (wpE (defs₀ (F := F)) 𝒱₀ (c : Thread nD τ) none) Set.univ p Ψ

/-- One effect, then the rest. -/
theorem lift_bind {β α : Type} (e : TpuEff nD τ sig (Elt F) Λ₀ .tc β) (k : β → Prog (TpuEff nD τ sig (Elt F) Λ₀ .tc) α) :
    (Prog.lift e >>= k) = .op e k := rfl

/-- Issuing class `cl`'s slab into a resting slot makes it fly. -/
theorem r_issue {σ : Fin 8 → SlotSt} (j : Fin 8) (cl : Fin 100) (kp : Option (Fin 100)) (hσ : σ j = .rest kp)
    {src : Memref sig .tc .hbm S128x4096 .f32} {dst : Memref sig .tc .vmem S128x4096 .f32} {sm : DmaSems sig S_}
    (e1 : src = grp cl) (e2 : dst = rslot j) (e3 : sm = csm j)
    {hsrc : src.view.WordExact} {hdst : dst.view.WordExact} {hsem : DmaTarget.Typed (nD := nD) .hbm (SemLoc.dma sm.sem) (DmaTarget.here (p := Proc.tc) dst)}
    {α : Type} {k : PUnit → Prog (TpuEff nD τ sig (Elt F) Λ₀ .tc) α} {Ψ : α → sProp 𝕄} :
    ringS c Q σ ⊢ iprop((ringS c Q (Function.update σ j (.fly cl)) -∗ WP c (k ⟨⟩) Ψ)
      -∗ WP c (Prog.lift (.enqueueDma src (.here dst) (.dma sm.sem) hsrc hdst hsem) >>= k) Ψ) := by
  subst e1 e2 e3
  refine (ring_turn c Q σ j).trans ?_
  rw [hσ]
  iintro ⟨HS, HR⟩ HK
  ihave HS := ((slot_forget c Q j kp).trans (entails_of_eq (slotS_none c Q j))) $$ HS
  icases HS with ⟨HC, HQ, ⟨%f, HS⟩⟩
  ihave HQ := (pointsTo_split_subset (Finset.subset_univ (grp cl).view.set)).1 $$ HQ
  icases HQ with ⟨HQ1, HQ2⟩
  have hr := Transfers.wp_dmaLocal (Q := Ψ) (defs := defs₀ (F := F)) countersEmb 𝒱₀ (c : Thread nD τ) none (src := grp cl) (dst := rslot j) (sm := SemLoc.dma (csm j).sem)
    (hsrc := hsrc) (hdst := hdst) (hsem := hsem) (k := k) (via := ReadAs.same) (q := qsh j) (fs := Q) (Sd := (rslot j).view.set) (fd := f) () (amt j) rfl (amt_pos j) (Finset.Subset.refl _)
  irw [lift_bind]
  iapply hr $$ [HQ1 HS HC]
  · isplitl [HQ1]; · iexact HQ1
    isplitl [HS]; · iexact HS
    iexact HC
  iintro HF
  iapply HK
  iapply HR
  irw [slotS_fly]
  isplitl [HF]
  · iapply (Transfers.Flight_mono countersEmb (c : Thread nD τ) (D := iprop(((rslot j).view.loc (c : Thread nD τ) ↦[(rslot j).view.set]{fullShare} ((rslot j).view.write (Elt F) f (ReadAs.same.apply ((grp cl).view.read (Elt F) Q)) Finset.univ)) ∗ srcP c Q j cl))) $$ HF
    unfold heldP
    iintro ⟨H1, H2⟩
    isplitl [H1]
    · iexists _
      isplitr; · ipureintro; exact landed c Q j cl f
      iexact H1
    · iexact H2
  · iexact HQ2

/-- Waiting on a flying slot brings it to rest with the slab in it. -/
theorem r_wait {σ : Fin 8 → SlotSt} (j : Fin 8) (cl : Fin 100) (hσ : σ j = .fly cl)
    {src : Memref sig .tc .hbm S128x4096 .f32} {dst : Memref sig .tc .vmem S128x4096 .f32} {sm : DmaSems sig S_}
    (e2 : dst = rslot j) (e3 : sm = csm j)
    {hsrc : src.view.WordExact} {hdst : dst.view.WordExact}
    {α : Type} {k : PUnit → Prog (TpuEff nD τ sig (Elt F) Λ₀ .tc) α} {Ψ : α → sProp 𝕄} :
    iprop(ringS c Q σ ∗ ∃ W, owes (c : Thread nD τ) 0 W) ⊢ iprop((iprop(ringS c Q (Function.update σ j (.rest (some cl))) ∗ ∃ W, owes (c : Thread nD τ) 0 W) -∗ WP c (k ⟨⟩) Ψ)
      -∗ WP c (Prog.lift (.waitDma2 sm.sem src dst hsrc hdst) >>= k) Ψ) := by
  subst e2 e3
  have ht := ring_turn c Q σ j
  rw [hσ, slotS_fly] at ht
  iintro ⟨H, ⟨%W, HW⟩⟩ HK
  ihave H := ht $$ H
  icases H with ⟨HS, HR⟩
  icases HS with ⟨HF, HQ2⟩
  iapply (Transfers.wp_waitLocal (Q := Ψ) countersEmb 𝒱₀ (c : Thread nD τ) none () (N := amt j) rfl) $$ [HF HW]
  · isplitl [HF]; · iexact HF
    iexact HW
  iintro ⟨⟨HS, HQ1⟩, HC, HW⟩
  iapply HK
  isplitl [HS HQ1 HQ2 HC HR]
  · iapply HR
    irw [slotS_held]
    isplitl [HC]; · iexact HC
    isplitl [HQ1 HQ2]
    · iapply (pointsTo_split_subset (Finset.subset_univ (grp cl).view.set)).2
      isplitl [HQ1]; · iexact HQ1
      iexact HQ2
    iexact HS
  · iexists _; iexact HW

/-- Loading a resting slot that holds a slab reads it. -/
theorem r_load {σ : Fin 8 → SlotSt} (j : Fin 8) (cl : Fin 100) (hσ : σ j = .rest (some cl))
    {off : Fin 3 → ℕ} (e : off = ![j.val, 0, 0]) {inb : ∀ a, off a + S1x128x4096.size a ≤ S8x128x4096.size a}
    {hl : bufM.view.LoadsAt (Rect.unit (s := S8x128x4096) off S1x128x4096.size inb).toLoadRect}
    {α : Type} {k : Vec F S1x128x4096 .f32 → Prog (TpuEff nD τ sig (Elt F) Λ₀ .tc) α} {Ψ : α → sProp 𝕄} :
    ringS c Q σ ⊢ iprop((ringS c Q σ -∗ WP c (k (slab c Q cl)) Ψ)
      -∗ WP c (Prog.lift (.load bufM (Rect.unit (s := S8x128x4096) off S1x128x4096.size inb).toLoadRect hl) >>= k) Ψ) := by
  subst e
  have eσ : Function.update σ j (.rest (some cl)) = σ := by rw [← hσ]; exact Function.update_eq_self j σ
  have ht : ringS c Q σ ⊢ iprop(slotS c Q j (.rest (some cl)) ∗ (slotS c Q j (.rest (some cl)) -∗ ringS c Q σ)) := by
    refine (ring_turn c Q σ j).trans ?_
    rw [hσ]
    iintro ⟨HS, HR⟩
    isplitl [HS]; · iexact HS
    ispecialize HR $$ %(SlotSt.rest (some cl))
    rw [eσ]
    iexact HR
  have hin : bufM.view.setOn (slotR j).toLoadRect.set ⊆ (rslot j).view.set := by
    have e : (rslot j).view.set = (bufM.view.slice (slotR j)).set := View.set_reshape _ _
    rw [e, View.set_slice]; exact Finset.Subset.refl _
  refine ht.trans ?_
  rw [slotS_held]
  unfold heldP
  iintro ⟨HS, HR⟩ HK
  icases HS with ⟨HC, HQ, ⟨%f, %hf, HS⟩⟩
  iapply (wp_load (Q := Ψ) 𝒱₀ (c : Thread nD τ) none Set.univ (m := bufM) (r := (slotR j).toLoadRect) (f := f) (S := (rslot j).view.set) (q := fullShare) hin) $$ [HS]
  · iexact HS
  iintro HS
  irw [hf]
  iapply HK
  iapply HR
  isplitl [HC]; · iexact HC
  isplitl [HQ]; · iexact HQ
  iexists f
  isplitr; · ipureintro; exact hf
  iexact HS

end Steps

end Cert.KernelIdeal.Hand

end
-- ==== Proof.KernelIdeal.Table.lean ====
/-
  The table that steers the ring, as numbers: which sorted rows begin a segment, the class each segment fetches, the
  order of the rows. The waits before row `k` are `w k`; the ring's state there is `ring k`, and passing a row that begins
  a segment moves it on by one.
-/
module

public import proofs.«01_k».proof.Proof.KernelIdeal.Ring

@[expose] public section

set_option maxRecDepth 16384

noncomputable section

namespace Cert.KernelIdeal.Hand

open Cert.KernelIdeal Cert.KernelIdeal.Gen
open Idealize.ShloMosaic

/-- What the table says: row `k` begins a segment, segment `s` is of class `cls s`, sorted row `k` is row `ord k`. -/
structure Tab where
  fst : ℕ → Bool
  cls : ℕ → Fin 100
  ord : ℕ → Fin 128
  fst0 : fst 0 = true

namespace Tab

variable (T : Tab)

/-- The segments begun before row `k`. -/
def w : ℕ → ℕ
  | 0 => 0
  | k + 1 => w k + if T.fst k then 1 else 0

/-- The segment row `k` lies in. -/
def seg (k : ℕ) : ℕ := T.w (k + 1) - 1

/-- The number of segments. -/
def nseg : ℕ := T.w 128

theorem w_zero : T.w 0 = 0 := rfl
theorem w_succ (k : ℕ) : T.w (k + 1) = T.w k + if T.fst k then 1 else 0 := rfl

theorem w_le (k : ℕ) : T.w k ≤ k := by
  induction k with
  | zero => exact Nat.le_refl 0
  | succ k ih => rw [w_succ]; split <;> omega

theorem w_mono {a b : ℕ} (h : a ≤ b) : T.w a ≤ T.w b := by
  induction b, h using Nat.le_induction with
  | base => exact Nat.le_refl _
  | succ b _ ih => rw [w_succ]; omega

theorem w_pos {k : ℕ} (h : 1 ≤ k) : 1 ≤ T.w k := by
  have h1 : T.w 1 = 1 := by rw [w_succ, w_zero, T.fst0]; rfl
  have := T.w_mono h
  omega

theorem nseg_le : T.nseg ≤ 128 := T.w_le 128
theorem nseg_pos : 1 ≤ T.nseg := T.w_pos (by omega)

theorem seg_of_fst {k : ℕ} (h : T.fst k = true) : T.seg k = T.w k := by
  unfold seg; rw [w_succ, h]; rfl
theorem seg_of_not {k : ℕ} (h : ¬ T.fst k = true) : T.seg k = T.w k - 1 ∧ T.w (k + 1) = T.w k := by
  have e : T.w (k + 1) = T.w k := by rw [w_succ, if_neg h]; rfl
  exact ⟨by unfold seg; rw [e], e⟩
theorem w_of_fst {k : ℕ} (h : T.fst k = true) : T.w (k + 1) = T.w k + 1 := by rw [w_succ, h]; rfl

theorem seg_lt_nseg {k : ℕ} (h : k < 128) : T.seg k < T.nseg := by
  have h1 := T.w_mono (a := k + 1) (b := 128) (by omega)
  have h2 := T.w_pos (k := k + 1) (by omega)
  unfold seg nseg; omega
theorem seg_lt {k : ℕ} (h : k < 128) : T.seg k < 128 := lt_of_lt_of_le (T.seg_lt_nseg h) T.nseg_le

/-! ## The ring along the rows -/

/-- The ring with `s` segments waited for: segments `s … s + 6` fly, those that exist, and the slot of segment `s - 1` holds it. -/
def ring (s : ℕ) (j : Fin 8) : SlotSt :=
  if s + (j.val + 8 - s % 8) % 8 < s + 7 ∧ s + (j.val + 8 - s % 8) % 8 < T.nseg then .fly (T.cls (s + (j.val + 8 - s % 8) % 8))
  else .rest (if 1 ≤ s ∧ (s - 1) % 8 = j.val then some (T.cls (s - 1)) else none)

/-- The slot of segment `s`. -/
abbrev sl (s : ℕ) : Fin 8 := ⟨s % 8, Nat.mod_lt _ (by omega)⟩

theorem ring_next {s : ℕ} (h : s < T.nseg) : T.ring s (sl s) = .fly (T.cls s) := by
  have e : s + ((sl s).val + 8 - s % 8) % 8 = s := by show s + (s % 8 + 8 - s % 8) % 8 = s; omega
  unfold ring; rw [e, if_pos ⟨by omega, h⟩]

theorem ring_last {s : ℕ} (h : 1 ≤ s) : T.ring s (sl (s - 1)) = .rest (some (T.cls (s - 1))) := by
  have e : s + ((sl (s - 1)).val + 8 - s % 8) % 8 = s + 7 := by show s + ((s - 1) % 8 + 8 - s % 8) % 8 = s + 7; omega
  unfold ring; rw [e, if_neg (by omega), if_pos ⟨h, rfl⟩]

theorem ring_free (s : ℕ) : ∃ kp, T.ring s (sl (s + 7)) = .rest kp := by
  have e : s + ((sl (s + 7)).val + 8 - s % 8) % 8 = s + 7 := by show s + ((s + 7) % 8 + 8 - s % 8) % 8 = s + 7; omega
  exact ⟨_, by unfold ring; rw [e, if_neg (by omega)]⟩

theorem sl_ne (s : ℕ) : sl (s + 7) ≠ sl s := by
  intro h; have := congrArg Fin.val h; change (s + 7) % 8 = s % 8 at this; omega

/-- Waiting for segment `s` and issuing segment `s + 7`, which exists. -/
theorem ring_issue {s : ℕ} (h : s + 7 < T.nseg) :
    Function.update (Function.update (T.ring s) (sl s) (.rest (some (T.cls s)))) (sl (s + 7)) (.fly (T.cls (s + 7))) = T.ring (s + 1) := by
  funext j
  by_cases h1 : j = sl (s + 7)
  · subst h1
    rw [Function.update_self]
    have e : s + 1 + ((sl (s + 7)).val + 8 - (s + 1) % 8) % 8 = s + 7 := by show s + 1 + ((s + 7) % 8 + 8 - (s + 1) % 8) % 8 = s + 7; omega
    unfold ring; rw [e, if_pos ⟨by omega, h⟩]
  · rw [Function.update_of_ne h1]
    by_cases h2 : j = sl s
    · subst h2; rw [Function.update_self]; exact (T.ring_last (s := s + 1) (by omega)).symm
    · rw [Function.update_of_ne h2]
      have n1 : j.val ≠ (s + 7) % 8 := fun e => h1 (Fin.ext e)
      have n2 : j.val ≠ s % 8 := fun e => h2 (Fin.ext e)
      have hj := j.isLt
      have e : s + 1 + (j.val + 8 - (s + 1) % 8) % 8 = s + (j.val + 8 - s % 8) % 8 := by omega
      unfold ring; rw [e]
      have a1 : s + (j.val + 8 - s % 8) % 8 < s + 7 := by omega
      have a2 : s + (j.val + 8 - s % 8) % 8 < s + 1 + 7 := by omega
      have k1 : ¬ (1 ≤ s ∧ (s - 1) % 8 = j.val) := by omega
      have k2 : ¬ (1 ≤ s + 1 ∧ (s + 1 - 1) % 8 = j.val) := by omega
      simp only [a1, a2, k1, k2, true_and, if_false]

/-- Waiting for segment `s`, segment `s + 7` not existing. -/
theorem ring_skip {s : ℕ} (h : ¬ s + 7 < T.nseg) :
    Function.update (Function.update (T.ring s) (sl s) (.rest (some (T.cls s)))) (sl (s + 7)) (.rest none) = T.ring (s + 1) := by
  funext j
  by_cases h1 : j = sl (s + 7)
  · subst h1
    rw [Function.update_self]
    have e : s + 1 + ((sl (s + 7)).val + 8 - (s + 1) % 8) % 8 = s + 7 := by show s + 1 + ((s + 7) % 8 + 8 - (s + 1) % 8) % 8 = s + 7; omega
    have k2 : ¬ (1 ≤ s + 1 ∧ (s + 1 - 1) % 8 = (sl (s + 7)).val) := by show ¬ (1 ≤ s + 1 ∧ (s + 1 - 1) % 8 = (s + 7) % 8); omega
    unfold ring; rw [e, if_neg (by omega), if_neg k2]
  · rw [Function.update_of_ne h1]
    by_cases h2 : j = sl s
    · subst h2; rw [Function.update_self]; exact (T.ring_last (s := s + 1) (by omega)).symm
    · rw [Function.update_of_ne h2]
      have n1 : j.val ≠ (s + 7) % 8 := fun e => h1 (Fin.ext e)
      have n2 : j.val ≠ s % 8 := fun e => h2 (Fin.ext e)
      have hj := j.isLt
      have e : s + 1 + (j.val + 8 - (s + 1) % 8) % 8 = s + (j.val + 8 - s % 8) % 8 := by omega
      unfold ring; rw [e]
      have a1 : s + (j.val + 8 - s % 8) % 8 < s + 7 := by omega
      have a2 : s + (j.val + 8 - s % 8) % 8 < s + 1 + 7 := by omega
      have k1 : ¬ (1 ≤ s ∧ (s - 1) % 8 = j.val) := by omega
      have k2 : ¬ (1 ≤ s + 1 ∧ (s + 1 - 1) % 8 = j.val) := by omega
      simp only [a1, a2, k1, k2, true_and, if_false]

/-- The ring while the first segments are being issued: slots below `i` fly, those whose segment exists. -/
def start (i : ℕ) (j : Fin 8) : SlotSt := if j.val < i ∧ j.val < T.nseg then .fly (T.cls j.val) else .rest none

theorem start_zero : T.start 0 = fun _ => .rest none := by funext j; unfold start; rw [if_neg (by omega)]
theorem start_seven : T.start 7 = T.ring 0 := by
  funext j
  have hj := j.isLt
  have e : 0 + (j.val + 8 - 0 % 8) % 8 = j.val := by omega
  unfold start ring; rw [e]
  simp only [show ¬ (1 ≤ 0 ∧ (0 - 1) % 8 = j.val) by omega, if_false, Nat.zero_add]
theorem start_issue {i : ℕ} (hi : i < 8) (h : i < T.nseg) : Function.update (T.start i) ⟨i, hi⟩ (.fly (T.cls i)) = T.start (i + 1) := by
  funext j
  by_cases h1 : j = ⟨i, hi⟩
  · subst h1; rw [Function.update_self]; unfold start; rw [if_pos ⟨by show i < i + 1; omega, h⟩]
  · rw [Function.update_of_ne h1]
    have n1 : j.val ≠ i := fun e => h1 (Fin.ext e)
    unfold start
    have : (j.val < i + 1) ↔ (j.val < i) := by omega
    simp only [this]
theorem start_skip {i : ℕ} (h : ¬ i < T.nseg) : T.start i = T.start (i + 1) := by
  funext j
  unfold start
  have : (j.val < i + 1 ∧ j.val < T.nseg) ↔ (j.val < i ∧ j.val < T.nseg) := by omega
  simp only [this]
theorem start_free (i : ℕ) (hi : i < 8) : T.start i ⟨i, hi⟩ = .rest none := by
  unfold start; rw [if_neg (by show ¬ (i < i ∧ _); omega)]

end Tab

end Cert.KernelIdeal.Hand

end
-- ==== Proof.KernelIdeal.Trip.lean ====
/-
  One trip of the loop over the sorted rows: wait for the row's segment where the row begins one (and issue the segment
  seven ahead), then the row's products, and after every 32nd row those rows' losses.
-/
module

public import proofs.«01_k».proof.Proof.KernelIdeal.Table
public import proofs.«01_k».proof.Proof.Gen.KernelIdeal.Loops
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- An index of two axes. -/
abbrev ix2 {n m : ℕ} (a : Fin n) (b : Fin m) : Shape.Idx ⟨2, ![n, m]⟩ := fun i => match i with | 0 => a | 1 => b

abbrev tabM : Memref sig .tc .smem S8x128 .i32 := Memref.whole cc0_scratch5
abbrev tvM : Memref sig .tc .vmem S8x128 .i32 := Memref.whole cc0_scratch4
abbrev lnegM : Memref sig .tc .vmem S128x4096 .f32 := Memref.whole cc0_scratch1
abbrev lppM : Memref sig .tc .vmem S128x128 .f32 := Memref.whole cc0_scratch2
abbrev conM : Memref sig .tc .vmem S128x1 .f32 := Memref.whole cc0_scratch3

/-! ## Plain steps -/

section Steps

variable (c : Dev nD)

/-- Word `(r, s)` of the table in SMEM. -/
def word (g : Buf (Elt F) (tabM.view.loc (c : Thread nD τ))) (r s : ℕ) : Elt F .i32 :=
  if h : ∀ a, (![r, s] : Fin 2 → ℕ) a + S1x1.size a ≤ S8x128.size a then
    tabM.view.readAt (Elt F) (Rect.unit (s := S8x128) ![r, s] S1x1.size h).toLoadRect g (Shape.Idx.first (Nat.one_pos : 0 < S1x1.numel))
  else 0#32

/-- A memref's buffer, whole. -/
abbrev allP {sp : Space} {s : Shape} {e : EltTy} (M : Memref sig .tc sp s e) (q : PosShare TreeShare) (f : Buf (Elt F) (M.view.loc (c : Thread nD τ))) : sProp 𝕄 :=
  M.view.loc (c : Thread nD τ) ↦[Finset.univ]{q} f

theorem r_word {g : Buf (Elt F) (tabM.view.loc (c : Thread nD τ))} {r s : ℕ} {x : Elt F .i32} (hx : word c g r s = x)
    {off : Fin 2 → ℕ} (e : off = ![r, s]) {inb : ∀ a, off a + S1x1.size a ≤ S8x128.size a}
    {h1 : (Rect.unit (s := S8x128) off S1x1.size inb).shape.numel = 1} {hp : EltTy.i32.packing = 1}
    {α : Type} {k : Elt F .i32 → Prog (TpuEff nD τ sig (Elt F) Λ₀ .tc) α} {Ψ : α → sProp 𝕄} :
    allP c tabM fullShare g ⊢ iprop((allP c tabM fullShare g -∗ WP c (k x) Ψ)
      -∗ WP c (smemLoad tabM (Rect.unit (s := S8x128) off S1x1.size inb) h1 hp >>= k) Ψ) := by
  subst e
  unfold word at hx
  rw [dif_pos inb] at hx
  subst hx
  exact wp_load 𝒱₀ (c : Thread nD τ) none Set.univ (m := tabM) (r := (Rect.unit (s := S8x128) ![r, s] S1x1.size inb).toLoadRect) (f := g) (q := fullShare) (S := Finset.univ)
    (k := fun f => k (f _)) (Finset.subset_univ _)

theorem r_assume {P : Prop} {d : Decidable P} (h : P) {α : Type} {k : PLift P → Prog (TpuEff nD τ sig (Elt F) Λ₀ .tc) α} {Ψ : α → sProp 𝕄} :
    WP c (k ⟨h⟩) Ψ ⊢ WP c (Prog.lift (.assume P d) >>= k) Ψ :=
  entails_of_eq (wp_assume_of 𝒱₀ (c : Thread nD τ) none Set.univ h).symm

theorem r_read {cs : CoreSpace} {s : Shape} {e : EltTy} {m : Memref sig .tc cs s e} {r : LoadRect s} {hl : m.view.LoadsAt r}
    {q : PosShare TreeShare} {f : Buf (Elt F) (m.view.loc (c : Thread nD τ))}
    {α : Type} {k : (r.shape.Idx → Elt F e) → Prog (TpuEff nD τ sig (Elt F) Λ₀ .tc) α} {Ψ : α → sProp 𝕄} :
    allP c m q f ⊢ iprop((allP c m q f -∗ WP c (k (m.view.readAt (Elt F) r f)) Ψ) -∗ WP c (Prog.lift (.load m r hl) >>= k) Ψ) :=
  wp_load 𝒱₀ (c : Thread nD τ) none Set.univ (Finset.subset_univ _)

theorem r_write {cs : CoreSpace} {s : Shape} {e : EltTy} {m : Memref sig .tc cs s e} {r : Rect s} {w : r.shape.Idx → Elt F e}
    {hx : (m.access r).Stores Finset.univ} {hm : Finset.univ = Finset.univ ∨ ∀ a, r.stride a = 1} {f : Buf (Elt F) (m.view.loc (c : Thread nD τ))}
    {α : Type} {k : PUnit → Prog (TpuEff nD τ sig (Elt F) Λ₀ .tc) α} {Ψ : α → sProp 𝕄} :
    allP c m fullShare f ⊢ iprop((allP c m fullShare (m.view.writes (Elt F) f [⟨r, w⟩]) -∗ WP c (k ⟨⟩) Ψ)
      -∗ WP c (Prog.lift (.store m r w Finset.univ hx hm) >>= k) Ψ) :=
  wp_store_writes₀ 𝒱₀ (c : Thread nD τ) none Set.univ (Finset.subset_univ _)

/-- A program that has ended. -/
theorem r_pure {α : Type} {a : α} {Ψ : α → sProp 𝕄} : Ψ a ⊢ WP (F := F) c (pure a) Ψ := by
  refine BI.Laws.entails_trans ?_ (entails_of_eq (wp_pure frame (wpE (defs₀ (F := F)) 𝒱₀ (c : Thread nD τ) none) Set.univ a Ψ).symm)
  iintro H; imodintro; iexact H

/-- A program, then the rest. -/
theorem r_bind {β α : Type} {p : Prog (TpuEff nD τ sig (Elt F) Λ₀ .tc) β} {k : β → Prog (TpuEff nD τ sig (Elt F) Λ₀ .tc) α} {Ψ : α → sProp 𝕄} :
    WP c p (fun a => WP c (k a) Ψ) ⊢ WP c (p >>= k) Ψ :=
  entails_of_eq (wp_bind frame (wpE (defs₀ (F := F)) 𝒱₀ (c : Thread nD τ) none) Set.univ p k Ψ).symm

end Steps

/-! ## What the table in SMEM reads -/

/-- The table in SMEM holds `T`. -/
structure Reads (c : Dev nD) (g : Buf (Elt F) (tabM.view.loc (c : Thread nD τ))) (T : Tab) : Prop where
  cls : ∀ i, i < 128 → i < T.nseg → word c g 0 i = wd (T.cls i).val
  seg : ∀ i, i < 128 → word c g 1 i = wd (T.seg i)
  fst : ∀ i, i < 128 → word c g 2 i = if T.fst i then 1#32 else 0#32
  nseg : word c g 3 0 = wd T.nseg
  ord : ∀ i, i < 128 → word c g 4 i = wd (T.ord i).val

/-! ## What the loop computes -/

section Values

variable (c : Dev nD) (Q : Buf (Elt F) (aM.view.loc (c : Thread nD τ))) (T : Tab)
variable (arg3 arg4 : Memref sig .tc .vmem S128x128 .f32)
variable (f3 : Buf (Elt F) (arg3.view.loc (c : Thread nD τ))) (f4 : Buf (Elt F) (arg4.view.loc (c : Thread nD τ)))

/-- Row `o` of a staged operand, as the body loads it. -/
def rowOf (M : Memref sig .tc .vmem S128x128 .f32) (f : Buf (Elt F) (M.view.loc (c : Thread nD τ))) (o : Fin 128) : Vec F S1x128 .f32 :=
  M.view.readAt (Elt F) (Rect.unit (s := S128x128) ![o.val, 0] S1x128.size (row_inb o.isLt)).toLoadRect f

/-- Row `k` of the products against the queue. -/
def lnRow (k : ℕ) : Vec F S1x4096 .f32 := k0_pay5 (rowOf c arg3 f3 (T.ord k)) (slab c Q (T.cls (T.seg k)))
/-- Row `k` of the products of query and key. -/
def lpRow (k : ℕ) : Vec F S1x128 .f32 := k0_pay1 (k0_pay6 (rowOf c arg3 f3 (T.ord k)) (rowOf c arg4 f4 (T.ord k)))
/-- Rows `32 b … 32 b + 31` of the two. -/
def lnBlk (b : ℕ) : Vec F S32x4096 .f32 := fun z => lnRow c Q T arg3 f3 (32 * b + (z 0).val) (ix2 0 (z 1))
def lpBlk (b : ℕ) : Vec F S32x128 .f32 := fun z => lpRow c T arg3 arg4 f3 f4 (32 * b + (z 0).val) (ix2 0 (z 1))
/-- The rows' losses. -/
def conAll : Vec F S128x1 .f32 := fun y =>
  k0_pay2 (lnBlk c Q T arg3 f3 ((y 0).val / 32)) (lpBlk c T arg3 arg4 f3 f4 ((y 0).val / 32)) (ix2 ⟨(y 0).val % 32, Nat.mod_lt _ (by decide)⟩ 0)

/-- The first `k` rows are done. -/
def Done8 (k : ℕ) (f : Buf (Elt F) (lnegM.view.loc (c : Thread nD τ))) : Prop :=
  ∀ y : S128x4096.Idx, (y 0).val < k → lnegM.view.read (Elt F) f y = lnRow c Q T arg3 f3 (y 0).val (ix2 0 (y 1))
def Done9 (k : ℕ) (f : Buf (Elt F) (lppM.view.loc (c : Thread nD τ))) : Prop :=
  ∀ y : S128x128.Idx, (y 0).val < k → lppM.view.read (Elt F) f y = lpRow c T arg3 arg4 f3 f4 (y 0).val (ix2 0 (y 1))
/-- and the losses of the full groups of 32 among them. -/
def Done10 (k : ℕ) (f : Buf (Elt F) (conM.view.loc (c : Thread nD τ))) : Prop :=
  ∀ y : S128x1.Idx, (y 0).val < 32 * (k / 32) → conM.view.read (Elt F) f y = conAll c Q T arg3 arg4 f3 f4 y

theorem done8_next {k : ℕ} {f : Buf (Elt F) (lnegM.view.loc (c : Thread nD τ))} (h : Done8 c Q T arg3 f3 k f)
    {off : Fin 2 → ℕ} (e : off = ![k, 0]) (inb : ∀ a, off a + S1x4096.size a ≤ S128x4096.size a) :
    Done8 c Q T arg3 f3 (k + 1) (lnegM.view.writes (Elt F) f [⟨Rect.unit (s := S128x4096) off S1x4096.size inb, lnRow c Q T arg3 f3 k⟩]) := by
  intro y hy
  by_cases hk : (y 0).val = k
  · rw [View.read_writes_cons_rows_of_mem lnegM.view f inb _ [] y (ix2 0 (y 1)) e (by rw [hk]; rfl) rfl, hk]
  · rw [View.read_writes_cons_rows_of_not_mem lnegM.view f inb _ [] y (W := 1) e rfl (by omega)]
    exact h y (by omega)

theorem done9_next {k : ℕ} {f : Buf (Elt F) (lppM.view.loc (c : Thread nD τ))} (h : Done9 c T arg3 arg4 f3 f4 k f)
    {off : Fin 2 → ℕ} (e : off = ![k, 0]) (inb : ∀ a, off a + S1x128.size a ≤ S128x128.size a) :
    Done9 c T arg3 arg4 f3 f4 (k + 1) (lppM.view.writes (Elt F) f [⟨Rect.unit (s := S128x128) off S1x128.size inb, lpRow c T arg3 arg4 f3 f4 k⟩]) := by
  intro y hy
  by_cases hk : (y 0).val = k
  · rw [View.read_writes_cons_rows_of_mem lppM.view f inb _ [] y (ix2 0 (y 1)) e (by rw [hk]; rfl) rfl, hk]
  · rw [View.read_writes_cons_rows_of_not_mem lppM.view f inb _ [] y (W := 1) e rfl (by omega)]
    exact h y (by omega)

theorem read8 {k : ℕ} {f : Buf (Elt F) (lnegM.view.loc (c : Thread nD τ))} (h : Done8 c Q T arg3 f3 k f) {b : ℕ} (hb : 32 * b + 32 ≤ k)
    {off : Fin 2 → ℕ} (e : off = ![32 * b, 0]) (inb : ∀ a, off a + S32x4096.size a ≤ S128x4096.size a) :
    lnegM.view.readAt (Elt F) (Rect.unit (s := S128x4096) off S32x4096.size inb).toLoadRect f = lnBlk c Q T arg3 f3 b := by
  subst e
  funext z
  have hz : (z 0).val < 32 := (z 0).isLt
  have e0 : ((Rect.unit (s := S128x4096) ![32 * b, 0] S32x4096.size inb).emb z 0).val = 32 * b + (z 0).val := by
    show 32 * b + 1 * (z 0).val = _; omega
  have e1 : (Rect.unit (s := S128x4096) ![32 * b, 0] S32x4096.size inb).emb z 1 = z 1 := Fin.ext (by show 0 + 1 * (z 1).val = _; omega)
  refine (h ((Rect.unit (s := S128x4096) ![32 * b, 0] S32x4096.size inb).emb z) (by rw [e0]; omega)).trans ?_
  unfold lnBlk
  rw [e0, e1]

theorem read9 {k : ℕ} {f : Buf (Elt F) (lppM.view.loc (c : Thread nD τ))} (h : Done9 c T arg3 arg4 f3 f4 k f) {b : ℕ} (hb : 32 * b + 32 ≤ k)
    {off : Fin 2 → ℕ} (e : off = ![32 * b, 0]) (inb : ∀ a, off a + S32x128.size a ≤ S128x128.size a) :
    lppM.view.readAt (Elt F) (Rect.unit (s := S128x128) off S32x128.size inb).toLoadRect f = lpBlk c T arg3 arg4 f3 f4 b := by
  subst e
  funext z
  have hz : (z 0).val < 32 := (z 0).isLt
  have e0 : ((Rect.unit (s := S128x128) ![32 * b, 0] S32x128.size inb).emb z 0).val = 32 * b + (z 0).val := by
    show 32 * b + 1 * (z 0).val = _; omega
  have e1 : (Rect.unit (s := S128x128) ![32 * b, 0] S32x128.size inb).emb z 1 = z 1 := Fin.ext (by show 0 + 1 * (z 1).val = _; omega)
  refine (h ((Rect.unit (s := S128x128) ![32 * b, 0] S32x128.size inb).emb z) (by rw [e0]; omega)).trans ?_
  unfold lpBlk
  rw [e0, e1]

theorem done10_same {k : ℕ} (hk : ¬ k % 32 = 31) {f : Buf (Elt F) (conM.view.loc (c : Thread nD τ))} (h : Done10 c Q T arg3 arg4 f3 f4 k f) :
    Done10 c Q T arg3 arg4 f3 f4 (k + 1) f := by
  intro y hy
  exact h y (by omega)

theorem done10_next {k : ℕ} (hk : k % 32 = 31) {f : Buf (Elt F) (conM.view.loc (c : Thread nD τ))} (h : Done10 c Q T arg3 arg4 f3 f4 k f)
    {off : Fin 2 → ℕ} (e : off = ![32 * (k / 32), 0]) (inb : ∀ a, off a + S32x1.size a ≤ S128x1.size a) :
    Done10 c Q T arg3 arg4 f3 f4 (k + 1) (conM.view.writes (Elt F) f
      [⟨Rect.unit (s := S128x1) off S32x1.size inb, k0_pay2 (lnBlk c Q T arg3 f3 (k / 32)) (lpBlk c T arg3 arg4 f3 f4 (k / 32))⟩]) := by
  intro y hy
  by_cases hy1 : (y 0).val < 32 * (k / 32)
  · rw [View.read_writes_cons_rows_of_not_mem conM.view f inb _ [] y (W := 32) e rfl (by omega)]
    exact h y hy1
  · have hb : (y 0).val / 32 = k / 32 := by omega
    rw [View.read_writes_cons_rows_of_mem conM.view f inb _ [] y (ix2 ⟨(y 0).val % 32, Nat.mod_lt _ (by decide)⟩ 0) e
      (by show (y 0).val = 32 * (k / 32) + (y 0).val % 32; omega) (by have h1 : (y 1).val < 1 := (y 1).isLt; show (y 1).val = 0; omega)]
    unfold conAll
    rw [hb]

end Values

end Cert.KernelIdeal.Hand

end
-- ==== Proof.KernelIdeal.TripRun.lean ====
/-
  One trip of the loop over the sorted rows, run: the ring advances one segment where the row begins one, and row `k` of
  the products and, at the end of a group of 32, the group's losses are written.
-/
module

public import proofs.«01_k».proof.Proof.KernelIdeal.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

section Trip

variable (c : Dev nD) (Q : Buf (Elt F) (aM.view.loc (c : Thread nD τ))) (T : Tab)
variable (i : grid0.Coords) (arg1 : Memref sig .tc .vmem S1x128 .i32) (harg1 : arg1.IsWhole) (arg2 : Memref sig .tc .vmem S128x1 .i32) (harg2 : arg2.IsWhole)
variable (arg3 : Memref sig .tc .vmem S128x128 .f32) (harg3 : arg3.IsWhole) (arg4 : Memref sig .tc .vmem S128x128 .f32) (harg4 : arg4.IsWhole)
variable (harg5 : aM.IsWhole) (arg6 : Memref sig .tc .vmem S1x1 .f32) (harg6 : arg6.IsWhole) (harg7 : bufM.IsWhole)
variable (harg8 : lnegM.IsWhole) (harg9 : lppM.IsWhole) (harg10 : conM.IsWhole) (harg11 : tvM.IsWhole) (harg12 : tabM.IsWhole)
variable (f3 : Buf (Elt F) (arg3.view.loc (c : Thread nD τ))) (f4 : Buf (Elt F) (arg4.view.loc (c : Thread nD τ)))
variable (g : Buf (Elt F) (tabM.view.loc (c : Thread nD τ)))

/-- A row loaded at offsets that equal row `o`'s. -/
theorem rowOf_congr (M : Memref sig .tc .vmem S128x128 .f32) (f : Buf (Elt F) (M.view.loc (c : Thread nD τ))) (o : Fin 128)
    {off : Fin 2 → ℕ} (e : off = ![o.val, 0]) (h : ∀ a, off a + S1x128.size a ≤ S128x128.size a) :
    M.view.readAt (Elt F) (Rect.unit (s := S128x128) off S1x128.size h).toLoadRect f = rowOf c M f o := by
  subst e; rfl

/-- Row `k` stored, its operand row loaded at offsets that equal the row's. -/
theorem done8_of {k : ℕ} {f : Buf (Elt F) (lnegM.view.loc (c : Thread nD τ))} (h : Done8 c Q T arg3 f3 k f)
    {off : Fin 2 → ℕ} (e : off = ![k, 0]) (inb : ∀ a, off a + S1x4096.size a ≤ S128x4096.size a)
    {v : Vec F S1x128 .f32} (hv : v = rowOf c arg3 f3 (T.ord k)) :
    Done8 c Q T arg3 f3 (k + 1) (lnegM.view.writes (Elt F) f [⟨Rect.unit (s := S128x4096) off S1x4096.size inb, k0_pay5 v (slab c Q (T.cls (T.seg k)))⟩]) := by
  subst hv
  exact done8_next c Q T arg3 f3 h e inb

/-- The ring before row `k`'s segment is waited for, advanced past the row. -/
theorem ring_step {k : ℕ} (hk : k < 128) (hf : T.fst k = true) (h : ¬ T.w k + 7 < T.nseg) :
    ringS c Q (Function.update (T.ring (T.w k)) (Tab.sl (T.w k)) (.rest (some (T.cls (T.w k))))) ⊢ ringS c Q (T.ring (T.w k + 1)) := by
  obtain ⟨kp, hkp⟩ := T.ring_free (T.w k)
  have h1 := ring_forget c Q (Function.update (T.ring (T.w k)) (Tab.sl (T.w k)) (.rest (some (T.cls (T.w k))))) (Tab.sl (T.w k + 7)) kp
    (by rw [Function.update_of_ne (Tab.sl_ne _)]; exact hkp)
  rw [T.ring_skip h] at h1
  exact h1

/-- What the first part of a trip leaves. -/
abbrev PartPost (k : ℕ) : sProp 𝕄 :=
  iprop(ringS c Q (T.ring (T.w (k + 1))) ∗ (∃ W, owes (c : Thread nD τ) 0 W) ∗ allP c tabM fullShare g ∗ allP c arg3 fullShare f3 ∗ allP c arg4 fullShare f4
    ∗ (∃ f8, ⌜Done8 c Q T arg3 f3 (k + 1) f8⌝ ∗ allP c lnegM fullShare f8))

theorem part1_ok (hg : Reads c g T) (k : Fin k0_t1_loop.trips) {Φ : (Σ' (arg15 : BitVec 32), FVec F S1x128 .f32) → sProp 𝕄} :
    iprop(ringS c Q (T.ring (T.w k.val)) ∗ (∃ W, owes (c : Thread nD τ) 0 W) ∗ allP c tabM fullShare g ∗ allP c arg3 fullShare f3 ∗ allP c arg4 fullShare f4
      ∗ (∃ f8, ⌜Done8 c Q T arg3 f3 k.val f8⌝ ∗ allP c lnegM fullShare f8))
    ⊢ iprop((∀ a, PartPost c Q T arg3 arg4 f3 f4 g k.val -∗ Φ ⟨a, k0_pay6 (rowOf c arg3 f3 (T.ord k.val)) (rowOf c arg4 f4 (T.ord k.val))⟩)
      -∗ WP c (k0_part1 (F := F) i arg1 harg1 arg2 harg2 arg3 harg3 arg4 harg4 aM harg5 arg6 harg6 bufM harg7 lnegM harg8 lppM harg9 conM harg10 tvM harg11 tabM harg12 cc0_scratch6 cc0_scratch7 (wd T.nseg) 0#32 1#32 k) Φ) := by
  have hk : k.val < 128 := trip_lt k
  have hs := T.seg_lt hk
  have hn := T.nseg_le
  have hsn := T.seg_lt_nseg hk
  iintro ⟨HR, HW, HT, H3, H4, H8⟩ HK
  irw [k0_part1_eq_skeleton]
  unfold k0_part1_skel
  dsimp only
  iapply (r_word c (hg.seg k.val hk) (off8_eq k)) $$ [HT]
  · iexact HT
  iintro HT
  iapply (r_assume c (chk12_of hs))
  iapply (r_word c (hg.ord k.val hk) (off9_eq k)) $$ [HT]
  · iexact HT
  iintro HT
  iapply (r_assume c (chk11_of (T.ord k.val).isLt))
  iapply (r_word c (hg.fst k.val hk) (off10_eq k)) $$ [HT]
  · iexact HT
  iintro HT
  iapply (r_assume c (chk8_of hn hs _))
  have hw1 : 1 ≤ T.w (k.val + 1) := T.w_pos (by omega)
  have hlast : T.ring (T.w (k.val + 1)) (Tab.sl (T.seg k.val)) = .rest (some (T.cls (T.seg k.val))) := T.ring_last hw1
  by_cases hf : T.fst k.val = true
  · have hsk : T.seg k.val = T.w k.val := T.seg_of_fst hf
    have hwk : T.w (k.val + 1) = T.w k.val + 1 := T.w_of_fst hf
    irw [dif_pos (show k0_cond7 (if T.fst k.val = true then 1#32 else 0#32) = 1#1 by rw [if_pos hf]; exact cond7_one)]
    iapply (r_word c (hg.cls _ hs hsn) (off11_eq hs)) $$ [HT]
    · iexact HT
    iintro HT
    iapply (r_assume c (chk9_of (T.cls (T.seg k.val)).isLt _))
    iapply (r_wait c Q (Tab.sl (T.seg k.val)) (T.cls (T.seg k.val)) (σ := T.ring (T.w k.val)) (by rw [hsk]; exact T.ring_next (hsk ▸ hsn))
      (rslot_congr _ (off13_eq hs) _ _) (csm_congr _ (off12_eq hs) _)) $$ [HR HW]
    · isplitl [HR] <;> iassumption
    iintro ⟨HR, HW⟩
    by_cases h8 : T.seg k.val + 7 < T.nseg
    · irw [dif_pos ((cond8_iff hn hs).mpr h8)]
      iapply (r_word c (hg.cls _ (by omega) h8) (off15_eq hs)) $$ [HT]
      · iexact HT
      iintro HT
      iapply (r_assume c (chk10_of (T.cls (T.seg k.val + 7)).isLt _ _ _))
      obtain ⟨kp, hkp⟩ := T.ring_free (T.w k.val)
      iapply (r_issue c Q (Tab.sl (T.seg k.val + 7)) (T.cls (T.seg k.val + 7)) kp
        (σ := Function.update (T.ring (T.w k.val)) (Tab.sl (T.seg k.val)) (.rest (some (T.cls (T.seg k.val)))))
        (by rw [show Tab.sl (T.seg k.val + 7) = Tab.sl (T.w k.val + 7) by rw [hsk], show Tab.sl (T.seg k.val) = Tab.sl (T.w k.val) by rw [hsk]]; rw [Function.update_of_ne (Tab.sl_ne _)]; exact hkp)
        (grp_congr _ (off18_eq (by have := (T.cls (T.seg k.val + 7)).isLt; omega)) _ _)
        (rslot_congr _ (off17_eq hs) _ _) (csm_congr _ (off16_eq hs) _)) $$ [HR]
      · iexact HR
      iintro HR
      ihave HR := (entails_of_eq (congrArg (ringS c Q) (show Function.update (Function.update (T.ring (T.w k.val)) (Tab.sl (T.seg k.val)) (.rest (some (T.cls (T.seg k.val)))))
          (Tab.sl (T.seg k.val + 7)) (.fly (T.cls (T.seg k.val + 7))) = T.ring (T.w (k.val + 1)) by rw [hwk, hsk]; exact T.ring_issue (hsk ▸ h8)))) $$ HR
      iapply (r_read c) $$ [H3]
      · iexact H3
      iintro H3
      iapply (r_read c) $$ [H4]
      · iexact H4
      iintro H4
      iapply (r_load c Q (Tab.sl (T.seg k.val)) (T.cls (T.seg k.val)) hlast (off20_eq hs)) $$ [HR]
      · iexact HR
      iintro HR
      icases H8 with ⟨%f8, %h8', H8⟩
      iapply (r_read c) $$ [H8]
      · iexact H8
      iintro H8
      iapply (r_write c) $$ [H8]
      · iexact H8
      iintro H8
      iapply (r_pure c)
      irw [rowOf_congr c arg3 f3 (T.ord k.val) (off19_eq (T.ord k.val).isLt), rowOf_congr c arg4 f4 (T.ord k.val) (off19_eq (T.ord k.val).isLt)]
      iapply HK
      unfold PartPost
      isplitl [HR]; · iexact HR
      isplitl [HW]; · iexact HW
      isplitl [HT]; · iexact HT
      isplitl [H3]; · iexact H3
      isplitl [H4]; · iexact H4
      iexists _
      isplitr
      rotate_left
      · iexact H8
      · ipureintro
        exact done8_of c Q T arg3 f3 h8' (off21_eq k) _ (rowOf_congr c arg3 f3 _ (off19_eq (T.ord k.val).isLt) _)
    · irw [dif_neg (fun h => h8 ((cond8_iff hn hs).mp h))]
      have hstep : ringS c Q (Function.update (T.ring (T.w k.val)) (Tab.sl (T.seg k.val)) (.rest (some (T.cls (T.seg k.val))))) ⊢ ringS c Q (T.ring (T.w (k.val + 1))) := by
        rw [hwk, hsk]; exact ring_step c Q T hk hf (hsk ▸ h8)
      ihave HR := hstep $$ HR
      iapply (r_read c) $$ [H3]
      · iexact H3
      iintro H3
      iapply (r_read c) $$ [H4]
      · iexact H4
      iintro H4
      iapply (r_load c Q (Tab.sl (T.seg k.val)) (T.cls (T.seg k.val)) hlast (off20_eq hs)) $$ [HR]
      · iexact HR
      iintro HR
      icases H8 with ⟨%f8, %h8', H8⟩
      iapply (r_read c) $$ [H8]
      · iexact H8
      iintro H8
      iapply (r_write c) $$ [H8]
      · iexact H8
      iintro H8
      iapply (r_pure c)
      irw [rowOf_congr c arg3 f3 (T.ord k.val) (off19_eq (T.ord k.val).isLt), rowOf_congr c arg4 f4 (T.ord k.val) (off19_eq (T.ord k.val).isLt)]
      iapply HK
      unfold PartPost
      isplitl [HR]; · iexact HR
      isplitl [HW]; · iexact HW
      isplitl [HT]; · iexact HT
      isplitl [H3]; · iexact H3
      isplitl [H4]; · iexact H4
      iexists _
      isplitr
      rotate_left
      · iexact H8
      · ipureintro
        exact done8_of c Q T arg3 f3 h8' (off21_eq k) _ (rowOf_congr c arg3 f3 _ (off19_eq (T.ord k.val).isLt) _)
  · have hwk : T.w (k.val + 1) = T.w k.val := (T.seg_of_not hf).2
    irw [dif_neg (show ¬ k0_cond7 (if T.fst k.val = true then 1#32 else 0#32) = 1#1 by rw [if_neg hf]; exact cond7_zero)]
    ihave HR := (entails_of_eq (congrArg (fun s => ringS c Q (T.ring s)) hwk.symm)) $$ HR
    iapply (r_read c) $$ [H3]
    · iexact H3
    iintro H3
    iapply (r_read c) $$ [H4]
    · iexact H4
    iintro H4
    iapply (r_load c Q (Tab.sl (T.seg k.val)) (T.cls (T.seg k.val)) hlast (off20_eq hs)) $$ [HR]
    · iexact HR
    iintro HR
    icases H8 with ⟨%f8, %h8', H8⟩
    iapply (r_read c) $$ [H8]
    · iexact H8
    iintro H8
    iapply (r_write c) $$ [H8]
    · iexact H8
    iintro H8
    iapply (r_pure c)
    irw [rowOf_congr c arg3 f3 (T.ord k.val) (off19_eq (T.ord k.val).isLt), rowOf_congr c arg4 f4 (T.ord k.val) (off19_eq (T.ord k.val).isLt)]
    iapply HK
    unfold PartPost
    isplitl [HR]; · iexact HR
    isplitl [HW]; · iexact HW
    isplitl [HT]; · iexact HT
    isplitl [H3]; · iexact H3
    isplitl [H4]; · iexact H4
    iexists _
    isplitr
    rotate_left
    · iexact H8
    · ipureintro
      exact done8_of c Q T arg3 f3 h8' (off21_eq k) _ (rowOf_congr c arg3 f3 _ (off19_eq (T.ord k.val).isLt) _)

/-- The loop's invariant before row `k`. -/
abbrev Inv (k : ℕ) : sProp 𝕄 :=
  iprop((ringS c Q (T.ring (T.w k)) ∗ (∃ W, owes (c : Thread nD τ) 0 W) ∗ allP c tabM fullShare g ∗ allP c arg3 fullShare f3 ∗ allP c arg4 fullShare f4
    ∗ (∃ f8, ⌜Done8 c Q T arg3 f3 k f8⌝ ∗ allP c lnegM fullShare f8))
    ∗ (∃ f9, ⌜Done9 c T arg3 arg4 f3 f4 k f9⌝ ∗ allP c lppM fullShare f9)
    ∗ (∃ f10, ⌜Done10 c Q T arg3 arg4 f3 f4 k f10⌝ ∗ allP c conM fullShare f10))

theorem done10_of {k : ℕ} (hk : k % 32 = 31) {f : Buf (Elt F) (conM.view.loc (c : Thread nD τ))} (h : Done10 c Q T arg3 arg4 f3 f4 k f)
    {off : Fin 2 → ℕ} (e : off = ![32 * (k / 32), 0]) (inb : ∀ a, off a + S32x1.size a ≤ S128x1.size a)
    {v : Vec F S32x4096 .f32} (hv : v = lnBlk c Q T arg3 f3 (k / 32)) {u : Vec F S32x128 .f32} (hu : u = lpBlk c T arg3 arg4 f3 f4 (k / 32)) :
    Done10 c Q T arg3 arg4 f3 f4 (k + 1) (conM.view.writes (Elt F) f [⟨Rect.unit (s := S128x1) off S32x1.size inb, k0_pay2 v u⟩]) := by
  subst hv hu
  exact done10_next c Q T arg3 arg4 f3 f4 hk h e inb

/-- One trip preserves it. -/
theorem trip_ok (hg : Reads c g T) (k : Fin k0_t1_loop.trips) (acc : Unit) :
    Inv c Q T arg3 arg4 f3 f4 g k.val
    ⊢ WP c (k0_t1_body (F := F) i arg1 harg1 arg2 harg2 arg3 harg3 arg4 harg4 aM harg5 arg6 harg6 bufM harg7 lnegM harg8 lppM harg9 conM harg10 tvM harg11 tabM harg12 cc0_scratch6 cc0_scratch7 (wd T.nseg) k acc) (fun _ => Inv c Q T arg3 arg4 f3 f4 g (k.val + 1)) := by
  iintro ⟨HI, ⟨%f9, %h9, H9⟩, ⟨%f10, %h10, H10⟩⟩
  unfold k0_t1_body
  dsimp only
  iapply (r_bind c)
  iapply (part1_ok c Q T i arg1 harg1 arg2 harg2 arg3 harg3 arg4 harg4 harg5 arg6 harg6 harg7 harg8 harg9 harg10 harg11 harg12 f3 f4 g hg k) $$ [HI]
  · iexact HI
  iintro %a ⟨HR, HW, HT, H3, H4, ⟨%f8, %h8, H8⟩⟩
  iapply (r_read c) $$ [H9]
  · iexact H9
  iintro H9
  iapply (r_write c) $$ [H9]
  · iexact H9
  iintro H9
  have h9' := done9_next c T arg3 arg4 f3 f4 h9 (off22_eq k) (k0_off22_inb k)
  by_cases hc : k0_cond9 k = 1#1
  · have hkm := (cond9_iff k).mp hc
    irw [dif_pos hc]
    iapply (r_read c) $$ [H8]
    · iexact H8
    iintro H8
    iapply (r_read c) $$ [H9]
    · iexact H9
    iintro H9
    iapply (r_read c) $$ [H10]
    · iexact H10
    iintro H10
    iapply (r_write c) $$ [H10]
    · iexact H10
    iintro H10
    iapply (r_pure c)
    unfold Inv
    isplitl [HR HW HT H3 H4 H8]
    · isplitl [HR]; · iexact HR
      isplitl [HW]; · iexact HW
      isplitl [HT]; · iexact HT
      isplitl [H3]; · iexact H3
      isplitl [H4]; · iexact H4
      iexists f8
      isplitr; · ipureintro; exact h8
      iexact H8
    isplitl [H9]
    · iexists _
      isplitr
      rotate_left
      · iexact H9
      · ipureintro; exact h9'
    iexists _
    isplitr
    rotate_left
    · iexact H10
    · ipureintro
      exact done10_of c Q T arg3 arg4 f3 f4 hkm h10 (off25_eq k) _ (read8 c Q T arg3 f3 h8 (by omega) (off23_eq k) _) (read9 c T arg3 arg4 f3 f4 h9' (by omega) (off24_eq k) _)
  · irw [dif_neg hc]
    iapply (r_pure c)
    unfold Inv
    isplitl [HR HW HT H3 H4 H8]
    · isplitl [HR]; · iexact HR
      isplitl [HW]; · iexact HW
      isplitl [HT]; · iexact HT
      isplitl [H3]; · iexact H3
      isplitl [H4]; · iexact H4
      iexists f8
      isplitr; · ipureintro; exact h8
      iexact H8
    isplitl [H9]
    · iexists _
      isplitr
      rotate_left
      · iexact H9
      · ipureintro; exact h9'
    iexists f10
    isplitr; · ipureintro; exact done10_same c Q T arg3 arg4 f3 f4 (fun h => hc ((cond9_iff k).mpr h)) h10
    iexact H10

end Trip

end Cert.KernelIdeal.Hand

end
-- ==== Proof.KernelIdeal.Body.lean ====
/-
  The body before its loop, and the body whole: the table of the sorted order is computed, stored and moved to SMEM, the
  first seven segments are issued, the loop runs, and the mean of the rows' losses is stored.
-/
module

public import proofs.«01_k».proof.Proof.KernelIdeal.TripRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-! ## The table of the sorted order -/

section Rows

variable (v0 : Vec F S1x128 .i32) (v2 : Vec F S128x1 .i32)

/-- The numbers of the lanes. -/
abbrev lanes : IVec S128x128 32 := iota .tc S128x128 32 [1] iota_S128x128_d1_w32

/-- The table's rows, of the labels as a row and as a column: each segment's class, each place's segment, whether it
    begins one, the number of segments, and the row of the input that stands there. -/
def rowCls : Vec F S1x128 .i32 :=
  k0_pay20 (k0_pay8 v2) lanes (k0_pay11 v0 v2) (k0_pay12 v0 v2) (k0_pay13 v0 v2) (k0_pay14 v0 v2)
def rowSeg : Vec F S1x128 .i32 := k0_pay21 lanes (k0_pay11 v0 v2) (k0_pay13 v0 v2)
def rowFst : Vec F S1x128 .i32 := k0_pay22 (k0_pay18 (k0_pay17 v0 v2))
def rowNum : Vec F S1x128 .i32 := k0_pay23 (k0_pay19 (k0_pay13 v0 v2))
def rowOrd : Vec F S1x128 .i32 := k0_pay24 (k0_pay16 v0 v2)

/-- The rows tabulate `T`. -/
structure Tabulates (T : Tab) : Prop where
  cls : ∀ i (h : i < 128), i < T.nseg → rowCls v0 v2 (ix2 0 ⟨i, h⟩) = wd (T.cls i).val
  seg : ∀ i (h : i < 128), rowSeg v0 v2 (ix2 0 ⟨i, h⟩) = wd (T.seg i)
  fst : ∀ i (h : i < 128), rowFst v0 v2 (ix2 0 ⟨i, h⟩) = if T.fst i then 1#32 else 0#32
  nseg : rowNum v0 v2 (ix2 0 0) = wd T.nseg
  ord : ∀ i (h : i < 128), rowOrd v0 v2 (ix2 0 ⟨i, h⟩) = wd (T.ord i).val

end Rows

section Start

variable (c : Dev nD) (Q : Buf (Elt F) (aM.view.loc (c : Thread nD τ))) (T : Tab)
variable (i : grid0.Coords) (arg1 : Memref sig .tc .vmem S1x128 .i32) (harg1 : arg1.IsWhole) (arg2 : Memref sig .tc .vmem S128x1 .i32) (harg2 : arg2.IsWhole)
variable (arg3 : Memref sig .tc .vmem S128x128 .f32) (harg3 : arg3.IsWhole) (arg4 : Memref sig .tc .vmem S128x128 .f32) (harg4 : arg4.IsWhole)
variable (harg5 : aM.IsWhole) (arg6 : Memref sig .tc .vmem S1x1 .f32) (harg6 : arg6.IsWhole) (harg7 : bufM.IsWhole)
variable (harg8 : lnegM.IsWhole) (harg9 : lppM.IsWhole) (harg10 : conM.IsWhole) (harg11 : tvM.IsWhole) (harg12 : tabM.IsWhole)
variable (f1 : Buf (Elt F) (arg1.view.loc (c : Thread nD τ))) (f2 : Buf (Elt F) (arg2.view.loc (c : Thread nD τ)))
variable (f3 : Buf (Elt F) (arg3.view.loc (c : Thread nD τ))) (f4 : Buf (Elt F) (arg4.view.loc (c : Thread nD τ)))

/-- The table's buffer after the five stores. -/
abbrev rowR (r : Fin 2 → ℕ) (h : ∀ a, r a + S1x128.size a ≤ S8x128.size a) : Rect S8x128 := Rect.unit (s := S8x128) r S1x128.size h

def put2 (v0 : Vec F S1x128 .i32) (v2 : Vec F S128x1 .i32) (f : Buf (Elt F) (tvM.view.loc (c : Thread nD τ))) : Buf (Elt F) (tvM.view.loc (c : Thread nD τ)) :=
  tvM.view.writes (Elt F) (tvM.view.writes (Elt F) f [⟨rowR ![0, 0] inb_S8x128_S1x128_0_0, rowCls v0 v2⟩]) [⟨rowR ![1, 0] inb_S8x128_S1x128_1_0, rowSeg v0 v2⟩]
def put5 (x y z : Vec F S1x128 .i32) (f : Buf (Elt F) (tvM.view.loc (c : Thread nD τ))) : Buf (Elt F) (tvM.view.loc (c : Thread nD τ)) :=
  tvM.view.writes (Elt F) (tvM.view.writes (Elt F) (tvM.view.writes (Elt F) f [⟨rowR ![2, 0] inb_S8x128_S1x128_2_0, x⟩])
    [⟨rowR ![3, 0] inb_S8x128_S1x128_3_0, y⟩]) [⟨rowR ![4, 0] inb_S8x128_S1x128_4_0, z⟩]

/-- What the transfer leaves in SMEM. -/
def tabOf (f : Buf (Elt F) (tvM.view.loc (c : Thread nD τ))) : Buf (Elt F) (tabM.view.loc (c : Thread nD τ)) := tvM.view.read (Elt F) f

theorem word_tabOf (f : Buf (Elt F) (tvM.view.loc (c : Thread nD τ))) (r : Fin 8) (s : Fin 128) :
    word c (tabOf c f) r.val s.val = tvM.view.read (Elt F) f (ix2 r s) := by
  unfold word
  rw [dif_pos (tab_inb r.val s.val r.isLt s.isLt)]
  show tvM.view.read (Elt F) f _ = _
  refine congrArg (tvM.view.read (Elt F) f) (funext fun a => ?_)
  match a with
  | 0 => exact Fin.ext (by show r.val + 1 * 0 = r.val; omega)
  | 1 => exact Fin.ext (by show s.val + 1 * 0 = s.val; omega)

section PutReads
variable (v0 : Vec F S1x128 .i32) (v2 : Vec F S128x1 .i32) (x y z : Vec F S1x128 .i32) (f : Buf (Elt F) (tvM.view.loc (c : Thread nD τ))) (s : Fin 128)

theorem put_hit (o : ℕ) (h : ∀ a, (![o, 0] : Fin 2 → ℕ) a + S1x128.size a ≤ S8x128.size a) (w : Vec F S1x128 .i32) (r : Fin 8) (hr : r.val = o) :
    tvM.view.read (Elt F) (tvM.view.writes (Elt F) f [⟨rowR ![o, 0] h, w⟩]) (ix2 r s) = w (ix2 0 s) :=
  View.read_writes_cons_rows_of_mem tvM.view f h w [] (ix2 r s) (ix2 0 s) rfl (by show r.val = o + 0; omega) rfl
theorem put_miss (o : ℕ) (h : ∀ a, (![o, 0] : Fin 2 → ℕ) a + S1x128.size a ≤ S8x128.size a) (w : Vec F S1x128 .i32) (r : Fin 8) (hr : r.val < o) :
    tvM.view.read (Elt F) (tvM.view.writes (Elt F) f [⟨rowR ![o, 0] h, w⟩]) (ix2 r s) = tvM.view.read (Elt F) f (ix2 r s) :=
  View.read_writes_cons_rows_of_not_mem tvM.view f h w [] (ix2 r s) (W := 1) rfl rfl (.inl hr)

theorem put_row4 : tvM.view.read (Elt F) (put5 c x y z f) (ix2 4 s) = z (ix2 0 s) := by
  unfold put5
  exact put_hit c _ s 4 _ z 4 rfl
theorem put_row3 : tvM.view.read (Elt F) (put5 c x y z f) (ix2 3 s) = y (ix2 0 s) := by
  unfold put5
  exact (put_miss c _ s 4 _ z 3 (by decide)).trans (put_hit c _ s 3 _ y 3 rfl)
theorem put_row2 : tvM.view.read (Elt F) (put5 c x y z f) (ix2 2 s) = x (ix2 0 s) := by
  unfold put5
  exact (put_miss c _ s 4 _ z 2 (by decide)).trans ((put_miss c _ s 3 _ y 2 (by decide)).trans (put_hit c _ s 2 _ x 2 rfl))
theorem put_low (r : Fin 8) (h : r.val < 2) : tvM.view.read (Elt F) (put5 c x y z f) (ix2 r s) = tvM.view.read (Elt F) f (ix2 r s) := by
  unfold put5
  exact (put_miss c _ s 4 _ z r (by omega)).trans ((put_miss c _ s 3 _ y r (by omega)).trans (put_miss c _ s 2 _ x r h))
theorem put_row1 : tvM.view.read (Elt F) (put2 c v0 v2 f) (ix2 1 s) = rowSeg v0 v2 (ix2 0 s) := by
  unfold put2
  exact put_hit c _ s 1 _ _ 1 rfl
theorem put_row0 : tvM.view.read (Elt F) (put2 c v0 v2 f) (ix2 0 s) = rowCls v0 v2 (ix2 0 s) := by
  unfold put2
  exact (put_miss c _ s 1 _ _ 0 (by decide)).trans (put_hit c _ s 0 _ _ 0 rfl)

/-- The table moved to SMEM holds what its rows tabulate. -/
theorem reads_of (hT : Tabulates v0 v2 T) :
    Reads c (tabOf c (put5 c (rowFst v0 v2) (rowNum v0 v2) (rowOrd v0 v2) (put2 c v0 v2 f))) T where
  cls i h h' := (word_tabOf c _ 0 ⟨i, h⟩).trans ((put_low c _ _ _ _ _ 0 (by decide)).trans ((put_row0 c v0 v2 f _).trans (hT.cls i h h')))
  seg i h := (word_tabOf c _ 1 ⟨i, h⟩).trans ((put_low c _ _ _ _ _ 1 (by decide)).trans ((put_row1 c v0 v2 f _).trans (hT.seg i h)))
  fst i h := (word_tabOf c _ 2 ⟨i, h⟩).trans ((put_row2 c _ _ _ _ _).trans (hT.fst i h))
  nseg := (word_tabOf c _ 3 0).trans ((put_row3 c _ _ _ _ _).trans hT.nseg)
  ord i h := (word_tabOf c _ 4 ⟨i, h⟩).trans ((put_row4 c _ _ _ _ _).trans (hT.ord i h))
end PutReads

/-! ## The parts -/

theorem lt8_0 : 0 < 8 := by decide
theorem lt8_1 : 1 < 8 := by decide
theorem lt8_2 : 2 < 8 := by decide
theorem lt8_3 : 3 < 8 := by decide
theorem lt8_4 : 4 < 8 := by decide
theorem lt8_5 : 5 < 8 := by decide
theorem lt8_6 : 6 < 8 := by decide

/-- The labels as loaded. -/
abbrev labR (f : Buf (Elt F) (arg1.view.loc (c : Thread nD τ))) : Vec F S1x128 .i32 :=
  arg1.view.readAt (Elt F) (Rect.unit (s := S1x128) ![0, 0] S1x128.size inb_S1x128_S1x128_0_0).toLoadRect f
abbrev labC (f : Buf (Elt F) (arg2.view.loc (c : Thread nD τ))) : Vec F S128x1 .i32 :=
  arg2.view.readAt (Elt F) (Rect.unit (s := S128x1) ![0, 0] S128x1.size inb_S128x1_S128x1_0_0).toLoadRect f

theorem part2_ok {Φ : (Σ' (v3 : IVec S128x1 32) (v5 : IVec S128x128 32) (v17 : IVec S128x1 32) (v22 : IVec S1x128 32) (v29 : IVec S128x1 1) (v36 : IVec S1x128 1) (v42 : IVec S1x128 32), IVec S128x128 32) → sProp 𝕄} :
    iprop(allP c arg1 fullShare f1 ∗ allP c arg2 fullShare f2)
    ⊢ iprop((iprop(allP c arg1 fullShare f1 ∗ allP c arg2 fullShare f2) -∗ Φ ⟨k0_pay8 (labC c arg2 f2), lanes, k0_pay11 (labR c arg1 f1) (labC c arg2 f2), k0_pay12 (labR c arg1 f1) (labC c arg2 f2),
        k0_pay13 (labR c arg1 f1) (labC c arg2 f2), k0_pay14 (labR c arg1 f1) (labC c arg2 f2), k0_pay16 (labR c arg1 f1) (labC c arg2 f2), k0_pay17 (labR c arg1 f1) (labC c arg2 f2)⟩)
      -∗ WP c (k0_part2 (F := F) i arg1 harg1 arg2 harg2 arg3 harg3 arg4 harg4 aM harg5 arg6 harg6 bufM harg7 lnegM harg8 lppM harg9 conM harg10 tvM harg11 tabM harg12 cc0_scratch6 cc0_scratch7) Φ) := by
  iintro ⟨H1, H2⟩ HK
  irw [k0_part2_eq_skeleton]
  unfold k0_part2_skel
  dsimp only
  iapply (r_read c) $$ [H1]
  · iexact H1
  iintro H1
  iapply (r_read c) $$ [H2]
  · iexact H2
  iintro H2
  iapply (r_pure c)
  iapply HK
  isplitl [H1] <;> iassumption

theorem part3_ok (v0 : Vec F S1x128 .i32) (v2 : Vec F S128x1 .i32) (f : Buf (Elt F) (tvM.view.loc (c : Thread nD τ)))
    {Φ : (Σ' (v47 : IVec S1x128 32), IVec S1x128 32) → sProp 𝕄} :
    allP c tvM fullShare f
    ⊢ iprop((allP c tvM fullShare (put2 c v0 v2 f) -∗ Φ ⟨k0_pay18 (k0_pay17 v0 v2), k0_pay19 (k0_pay13 v0 v2)⟩)
      -∗ WP c (k0_part3 (F := F) i arg1 harg1 arg2 harg2 arg3 harg3 arg4 harg4 aM harg5 arg6 harg6 bufM harg7 lnegM harg8 lppM harg9 conM harg10 tvM harg11 tabM harg12 cc0_scratch6 cc0_scratch7 (k0_pay8 v2) lanes (k0_pay11 v0 v2) (k0_pay12 v0 v2) (k0_pay13 v0 v2) (k0_pay14 v0 v2) (k0_pay17 v0 v2)) Φ) := by
  iintro H HK
  irw [k0_part3_eq_skeleton]
  unfold k0_part3_skel
  dsimp only
  iapply (r_read c) $$ [H]
  · iexact H
  iintro H
  iapply (r_write c) $$ [H]
  · iexact H
  iintro H
  iapply (r_read c) $$ [H]
  · iexact H
  iintro H
  iapply (r_write c) $$ [H]
  · iexact H
  iintro H
  iapply (r_pure c)
  iapply HK
  iexact H

/-- The table's own semaphore, at zero. -/
abbrev cellT : sProp 𝕄 := semVal ((c : Thread nD τ), SemLoc.dma cc0_scratch7.sem) 0
abbrev amtT : ℕ := tabM.view.amount (SemLoc.dma cc0_scratch7.sem)
theorem amtT_pos : 0 < amtT := tabM.view.dmaCredit_pos (by decide)

/-- The table moves to SMEM. -/
theorem r_tab (f : Buf (Elt F) (tvM.view.loc (c : Thread nD τ)))
    {hsrc : tvM.view.WordExact} {hdst : tabM.view.WordExact} {hsem : DmaTarget.Typed (nD := nD) .vmem (SemLoc.dma cc0_scratch7.sem) (DmaTarget.here (p := Proc.tc) tabM)}
    {hsrc' : tvM.view.WordExact} {hdst' : tabM.view.WordExact}
    {α : Type} {k : PUnit → Prog (TpuEff nD τ sig (Elt F) Λ₀ .tc) α} {Ψ : α → sProp 𝕄} :
    iprop(allP c tvM fullShare f ∗ (∃ g, allP c tabM fullShare g) ∗ cellT (F := F) c ∗ ∃ W, owes (c : Thread nD τ) 0 W)
    ⊢ iprop((iprop(allP c tvM fullShare f ∗ allP c tabM fullShare (tabOf c f) ∗ cellT (F := F) c ∗ ∃ W, owes (c : Thread nD τ) 0 W) -∗ WP c (k ⟨⟩) Ψ)
      -∗ WP c (Prog.lift (.enqueueDma tvM (.here tabM) (.dma cc0_scratch7.sem) hsrc hdst hsem) >>= fun _ => Prog.lift (.waitDma2 cc0_scratch7.sem tvM tabM hsrc' hdst') >>= k) Ψ) := by
  have e1 : tvM.view.set = Finset.univ := View.set_whole _
  have e2 : tabM.view.set = Finset.univ := View.set_whole _
  iintro ⟨HV, ⟨%g, HS⟩, HC, ⟨%W, HW⟩⟩ HK
  have hr := Transfers.wp_dmaLocal (Q := Ψ) (defs := defs₀ (F := F)) countersEmb 𝒱₀ (c : Thread nD τ) none (src := tvM) (dst := tabM) (sm := SemLoc.dma cc0_scratch7.sem)
    (hsrc := hsrc) (hdst := hdst) (hsem := hsem) (k := fun _ => Prog.lift (.waitDma2 cc0_scratch7.sem tvM tabM hsrc' hdst') >>= k) (via := ReadAs.same) (q := fullShare) (fs := f) (Sd := Finset.univ) (fd := g) () amtT rfl amtT_pos (Finset.subset_univ _)
  rw [e1] at hr
  irw [lift_bind]
  iapply hr $$ [HV HS HC]
  · isplitl [HV]; · iexact HV
    isplitl [HS]; · iexact HS
    iexact HC
  iintro HF
  iapply (Transfers.wp_waitLocal (Q := Ψ) countersEmb 𝒱₀ (c : Thread nD τ) none () (N := amtT) rfl) $$ [HF HW]
  · isplitl [HF]; · iexact HF
    iexact HW
  iintro ⟨⟨HS, HV⟩, HC, HW⟩
  have et : tabM.view.write (Elt F) g (ReadAs.same.apply (tvM.view.read (Elt F) f)) Finset.univ = tabOf c f := View.write_whole_univ _ _ _
  iapply HK
  isplitl [HV]; · iexact HV
  isplitl [HS]
  · irw [← et]; iexact HS
  isplitl [HC]; · iexact HC
  iexists _; iexact HW

theorem part4_ok (x y z : IVec S1x128 32) (f : Buf (Elt F) (tvM.view.loc (c : Thread nD τ)))
    (hg : Reads c (tabOf c (put5 c (k0_pay22 x) (k0_pay23 y) (k0_pay24 z) f)) T)
    {Φ : (Σ' (v100 : Elt F .i32), BitVec 1) → sProp 𝕄} :
    iprop(ringS c Q (T.start 0) ∗ allP c tvM fullShare f ∗ (∃ g, allP c tabM fullShare g) ∗ cellT (F := F) c ∗ ∃ W, owes (c : Thread nD τ) 0 W)
    ⊢ iprop((iprop(ringS c Q (T.start 4) ∗ allP c tvM fullShare (put5 c (k0_pay22 x) (k0_pay23 y) (k0_pay24 z) f) ∗ allP c tabM fullShare (tabOf c (put5 c (k0_pay22 x) (k0_pay23 y) (k0_pay24 z) f))
        ∗ cellT (F := F) c ∗ ∃ W, owes (c : Thread nD τ) 0 W) -∗ Φ ⟨wd T.nseg, Scalar.cmpi .sgt (wd T.nseg) 4#32⟩)
      -∗ WP c (k0_part4 (F := F) i arg1 harg1 arg2 harg2 arg3 harg3 arg4 harg4 aM harg5 arg6 harg6 bufM harg7 lnegM harg8 lppM harg9 conM harg10 tvM harg11 tabM harg12 cc0_scratch6 cc0_scratch7 z x y) Φ) := by
  have hn := T.nseg_le
  have hn0 := T.nseg_pos
  iintro ⟨HR, HV, HT, HC, HW⟩ HK
  irw [k0_part4_eq_skeleton]
  unfold k0_part4_skel
  dsimp only
  iapply (r_read c) $$ [HV]
  · iexact HV
  iintro HV
  iapply (r_write c) $$ [HV]
  · iexact HV
  iintro HV
  iapply (r_read c) $$ [HV]
  · iexact HV
  iintro HV
  iapply (r_write c) $$ [HV]
  · iexact HV
  iintro HV
  iapply (r_read c) $$ [HV]
  · iexact HV
  iintro HV
  iapply (r_write c) $$ [HV]
  · iexact HV
  iintro HV
  iapply (r_tab c (put5 c (k0_pay22 x) (k0_pay23 y) (k0_pay24 z) f)) $$ [HV HT HC HW]
  · isplitl [HV]; · iexact HV
    isplitl [HT]; · iexact HT
    isplitl [HC]; · iexact HC
    iexact HW
  iintro ⟨HV, HT, HC, HW⟩
  iapply (r_word c hg.nseg rfl) $$ [HT]
  · iexact HT
  iintro HT
  iapply (r_word c (hg.cls 0 (by omega) hn0) rfl) $$ [HT]
  · iexact HT
  iintro HT
  iapply (r_assume c (chk1_of (T.cls 0).isLt))
  iapply (r_issue c Q (σ := T.start 0) ⟨0, lt8_0⟩ (T.cls 0) none (T.start_free 0 lt8_0) (grp_congr _ (off1_eq (by have := (T.cls 0).isLt; omega)) _ _) (rslot_congr _ rfl _ _) (csm_congr _ rfl _)) $$ [HR]
  · iexact HR
  iintro HR
  ihave HR := (entails_of_eq (congrArg (ringS c Q) (T.start_issue (i := 0) lt8_0 hn0))) $$ HR
  by_cases hn1 : 1 < T.nseg
  · irw [dif_pos ((cond1_fin ⟨T.nseg, by omega⟩).mpr hn1)]
    iapply (r_word c (hg.cls 1 (by omega) hn1) rfl) $$ [HT]
    · iexact HT
    iintro HT
    iapply (r_assume c (chk2_of (T.cls 1).isLt _))
    iapply (r_issue c Q (σ := T.start 1) ⟨1, lt8_1⟩ (T.cls 1) none (T.start_free 1 lt8_1) (grp_congr _ (off2_eq (by have := (T.cls 1).isLt; omega)) _ _) (rslot_congr _ rfl _ _) (csm_congr _ rfl _)) $$ [HR]
    · iexact HR
    iintro HR
    ihave HR := (entails_of_eq (congrArg (ringS c Q) (T.start_issue (i := 1) lt8_1 hn1))) $$ HR
    by_cases hn2 : 2 < T.nseg
    · irw [dif_pos ((cond2_fin ⟨T.nseg, by omega⟩).mpr hn2)]
      iapply (r_word c (hg.cls 2 (by omega) hn2) rfl) $$ [HT]
      · iexact HT
      iintro HT
      iapply (r_assume c (chk3_of (T.cls 2).isLt _))
      iapply (r_issue c Q (σ := T.start 2) ⟨2, lt8_2⟩ (T.cls 2) none (T.start_free 2 lt8_2) (grp_congr _ (off3_eq (by have := (T.cls 2).isLt; omega)) _ _) (rslot_congr _ rfl _ _) (csm_congr _ rfl _)) $$ [HR]
      · iexact HR
      iintro HR
      ihave HR := (entails_of_eq (congrArg (ringS c Q) (T.start_issue (i := 2) lt8_2 hn2))) $$ HR
      by_cases hn3 : 3 < T.nseg
      · irw [dif_pos ((cond3_fin ⟨T.nseg, by omega⟩).mpr hn3)]
        iapply (r_word c (hg.cls 3 (by omega) hn3) rfl) $$ [HT]
        · iexact HT
        iintro HT
        iapply (r_assume c (chk4_of (T.cls 3).isLt _))
        iapply (r_issue c Q (σ := T.start 3) ⟨3, lt8_3⟩ (T.cls 3) none (T.start_free 3 lt8_3) (grp_congr _ (off4_eq (by have := (T.cls 3).isLt; omega)) _ _) (rslot_congr _ rfl _ _) (csm_congr _ rfl _)) $$ [HR]
        · iexact HR
        iintro HR
        ihave HR := (entails_of_eq (congrArg (ringS c Q) (T.start_issue (i := 3) lt8_3 hn3))) $$ HR
        iapply (r_pure c)
        iapply HK
        isplitl [HR]; · iexact HR
        isplitl [HV]; · iexact HV
        isplitl [HT]; · iexact HT
        isplitl [HC]; · iexact HC
        iexact HW
      · irw [dif_neg (fun h => hn3 ((cond3_fin ⟨T.nseg, by omega⟩).mp h))]
        ihave HR := (entails_of_eq (congrArg (ringS c Q) (T.start_skip (i := 3) hn3))) $$ HR
        iapply (r_pure c)
        iapply HK
        isplitl [HR]; · iexact HR
        isplitl [HV]; · iexact HV
        isplitl [HT]; · iexact HT
        isplitl [HC]; · iexact HC
        iexact HW
    · irw [dif_neg (fun h => hn2 ((cond2_fin ⟨T.nseg, by omega⟩).mp h))]
      ihave HR := (entails_of_eq (congrArg (ringS c Q) (T.start_skip (i := 2) hn2))) $$ HR
      irw [dif_neg (fun h => hn2 (by have := (cond3_fin ⟨T.nseg, by omega⟩).mp h; dsimp only at this; omega))]
      ihave HR := (entails_of_eq (congrArg (ringS c Q) (T.start_skip (i := 3) (by omega)))) $$ HR
      iapply (r_pure c)
      iapply HK
      isplitl [HR]; · iexact HR
      isplitl [HV]; · iexact HV
      isplitl [HT]; · iexact HT
      isplitl [HC]; · iexact HC
      iexact HW
  · irw [dif_neg (fun h => hn1 ((cond1_fin ⟨T.nseg, by omega⟩).mp h))]
    ihave HR := (entails_of_eq (congrArg (ringS c Q) (T.start_skip (i := 1) hn1))) $$ HR
    irw [dif_neg (fun h => hn1 (by have := (cond2_fin ⟨T.nseg, by omega⟩).mp h; dsimp only at this; omega))]
    ihave HR := (entails_of_eq (congrArg (ringS c Q) (T.start_skip (i := 2) (by omega)))) $$ HR
    irw [dif_neg (fun h => hn1 (by have := (cond3_fin ⟨T.nseg, by omega⟩).mp h; dsimp only at this; omega))]
    ihave HR := (entails_of_eq (congrArg (ringS c Q) (T.start_skip (i := 3) (by omega)))) $$ HR
    iapply (r_pure c)
    iapply HK
    isplitl [HR]; · iexact HR
    isplitl [HV]; · iexact HV
    isplitl [HT]; · iexact HT
    isplitl [HC]; · iexact HC
    iexact HW

/-- The body's resources but the ring, the operands and the result. -/
abbrev Rest : sProp 𝕄 :=
  iprop((∃ f, allP (F := F) c tvM fullShare f) ∗ (∃ g, allP (F := F) c tabM fullShare g) ∗ cellT (F := F) c ∗ (∃ f, allP (F := F) c lnegM fullShare f) ∗ (∃ f, allP (F := F) c lppM fullShare f) ∗ (∃ f, allP (F := F) c conM fullShare f))

theorem con_read {f : Buf (Elt F) (conM.view.loc (c : Thread nD τ))} (h : Done10 c Q T arg3 arg4 f3 f4 128 f) :
    conM.view.readAt (Elt F) (Rect.unit (s := S128x1) ![0, 0] S128x1.size inb_S128x1_S128x1_0_0).toLoadRect f = conAll c Q T arg3 arg4 f3 f4 := by
  funext y
  have e : (Rect.unit (s := S128x1) ![0, 0] S128x1.size inb_S128x1_S128x1_0_0).emb y = y :=
    funext fun a => Fin.ext (by match a with | 0 => (show 0 + 1 * (y 0).val = (y 0).val; omega) | 1 => (show 0 + 1 * (y 1).val = (y 1).val; omega))
  show conM.view.read (Elt F) f ((Rect.unit (s := S128x1) ![0, 0] S128x1.size inb_S128x1_S128x1_0_0).emb y) = _
  rw [e]
  exact h y (y 0).isLt

/-- The mean over the batch, as it is stored. -/
def lossV : Vec F S1x1 .f32 := k0_pay3 (conAll c Q T arg3 arg4 f3 f4)

/-- The loop, by its invariant. -/
theorem r_loop (g : Buf (Elt F) (tabM.view.loc (c : Thread nD τ))) (hg : Reads c g T) {α : Type} {kk : Unit → Prog (TpuEff nD τ sig (Elt F) Λ₀ .tc) α} {Ψ : α → sProp 𝕄} :
    Inv c Q T arg3 arg4 f3 f4 g 0
    ⊢ iprop((∀ acc, Inv c Q T arg3 arg4 f3 f4 g 128 -∗ WP c (kk acc) Ψ)
      -∗ WP c (Scf.Loop.for k0_t1_loop k0_t1_ok ⟨⟩ (k0_t1_body (F := F) i arg1 harg1 arg2 harg2 arg3 harg3 arg4 harg4 aM harg5 arg6 harg6 bufM harg7 lnegM harg8 lppM harg9 conM harg10 tvM harg11 tabM harg12 cc0_scratch6 cc0_scratch7 (wd T.nseg)) >>= kk) Ψ) := by
  have hl := Scf.wp_for_bind frame (wpE (defs₀ (F := F)) 𝒱₀ (c : Thread nD τ) none) Set.univ k0_t1_loop.lb k0_t1_loop.ub k0_t1_loop.st k0_t1_ok ⟨⟩
    (k0_t1_body (F := F) i arg1 harg1 arg2 harg2 arg3 harg3 arg4 harg4 aM harg5 arg6 harg6 bufM harg7 lnegM harg8 lppM harg9 conM harg10 tvM harg11 tabM harg12 cc0_scratch6 cc0_scratch7 (wd T.nseg)) (fun k _ => Inv c Q T arg3 arg4 f3 f4 g k) (fun k acc => trip_ok c Q T i arg1 harg1 arg2 harg2 arg3 harg3 arg4 harg4 harg5 arg6 harg6 harg7 harg8 harg9 harg10 harg11 harg12 f3 f4 g hg k acc) (kk := kk) (Q := Ψ)
  have hr := trips_eq
  unfold Scf.Loop.trips at hr
  rw [hr] at hl
  exact hl

/-- The loop and what follows it. -/
theorem fin_ok (g : Buf (Elt F) (tabM.view.loc (c : Thread nD τ))) (f6 : Buf (Elt F) (arg6.view.loc (c : Thread nD τ))) (hg : Reads c g T) :
    iprop(ringS c Q (T.ring 0) ∗ (∃ W, owes (c : Thread nD τ) 0 W) ∗ allP c arg1 fullShare f1 ∗ allP c arg2 fullShare f2 ∗ allP c arg3 fullShare f3 ∗ allP c arg4 fullShare f4
      ∗ allP c arg6 fullShare f6 ∗ allP c tabM fullShare g ∗ (∃ f, allP (F := F) c tvM fullShare f) ∗ cellT (F := F) c ∗ (∃ f, allP (F := F) c lnegM fullShare f) ∗ (∃ f, allP (F := F) c lppM fullShare f) ∗ (∃ f, allP (F := F) c conM fullShare f))
    ⊢ WP c (do
        Scf.Loop.for k0_t1_loop k0_t1_ok ⟨⟩ (k0_t1_body (F := F) i arg1 harg1 arg2 harg2 arg3 harg3 arg4 harg4 aM harg5 arg6 harg6 bufM harg7 lnegM harg8 lppM harg9 conM harg10 tvM harg11 tabM harg12 cc0_scratch6 cc0_scratch7 (wd T.nseg))
        let v127 : Vec F S128x1 .f32 ← Prog.lift (.load conM (Rect.unit (s := S128x1) ![0, 0] S128x1.size inb_S128x1_S128x1_0_0).toLoadRect (View.loadsAt_vmem h_S128x1))
        let v134 : Vec F S1x1 .f32 ← Prog.lift (.load arg6 (Rect.unit (s := S1x1) ![0, 0] S1x1.size inb_S1x1_S1x1_0_0).toLoadRect (View.loadsAt_vmem h_S1x1))
        Prog.lift (.store arg6 (Rect.unit (s := S1x1) ![0, 0] S1x1.size inb_S1x1_S1x1_0_0) (k0_pay3 v127) Finset.univ (View.stores_vmem_bits_univ h_S1x1 rfl) (.inl rfl))
        pure ⟨⟩ : Prog (TpuEff nD τ sig (Elt F) Λ₀ .tc) PUnit) (fun _ =>
      iprop(ringS c Q (T.ring T.nseg) ∗ (∃ W, owes (c : Thread nD τ) 0 W) ∗ allP c arg1 fullShare f1 ∗ allP c arg2 fullShare f2 ∗ allP c arg3 fullShare f3 ∗ allP c arg4 fullShare f4
      ∗ allP c arg6 fullShare (arg6.view.writes (Elt F) f6 [⟨Rect.unit (s := S1x1) ![0, 0] S1x1.size inb_S1x1_S1x1_0_0, lossV c Q T arg3 arg4 f3 f4⟩]) ∗ Rest (F := F) c)) := by
  iintro ⟨HR, HW, H1, H2, H3, H4, H6, HT, HV, HC, ⟨%f8, H8⟩, ⟨%f9, H9⟩, ⟨%f10, H10⟩⟩
  iapply (r_loop c Q T i arg1 harg1 arg2 harg2 arg3 harg3 arg4 harg4 harg5 arg6 harg6 harg7 harg8 harg9 harg10 harg11 harg12 f3 f4 g hg) $$ [HR HW H3 H4 HT H8 H9 H10]
  · isplitl [HR HW H3 H4 HT H8]
    · isplitl [HR]; · iexact HR
      isplitl [HW]; · iexact HW
      isplitl [HT]; · iexact HT
      isplitl [H3]; · iexact H3
      isplitl [H4]; · iexact H4
      iexists f8
      isplitr; · ipureintro; exact fun y hy => absurd hy (Nat.not_lt_zero _)
      iexact H8
    isplitl [H9]
    · iexists f9
      isplitr; · ipureintro; exact fun y hy => absurd hy (Nat.not_lt_zero _)
      iexact H9
    iexists f10
    isplitr; · ipureintro; exact fun y hy => absurd hy (Nat.not_lt_zero _)
    iexact H10
  iintro %acc ⟨⟨HR, HW, HT, H3, H4, ⟨%f8, %h8, H8⟩⟩, ⟨%f9, %h9, H9⟩, ⟨%f10, %h10, H10⟩⟩
  iapply (r_read c) $$ [H10]
  · iexact H10
  iintro H10
  irw [con_read c Q T arg3 arg4 f3 f4 h10]
  iapply (r_read c) $$ [H6]
  · iexact H6
  iintro H6
  iapply (r_write c) $$ [H6]
  · iexact H6
  iintro H6
  iapply (r_pure c)
  isplitl [HR]; · iexact HR
  isplitl [HW]; · iexact HW
  isplitl [H1]; · iexact H1
  isplitl [H2]; · iexact H2
  isplitl [H3]; · iexact H3
  isplitl [H4]; · iexact H4
  isplitl [H6]; · iexact H6
  isplitl [HV]; · iexact HV
  isplitl [HT]; · iexists _; iexact HT
  isplitl [HC]; · iexact HC
  isplitl [H8]; · iexists _; iexact H8
  isplitl [H9]; · iexists _; iexact H9
  iexists _; iexact H10

theorem body_ok (hT : Tabulates (labR c arg1 f1) (labC c arg2 f2) T) (f6 : Buf (Elt F) (arg6.view.loc (c : Thread nD τ))) :
    iprop(ringS c Q (fun _ => .rest none) ∗ (∃ W, owes (c : Thread nD τ) 0 W) ∗ allP c arg1 fullShare f1 ∗ allP c arg2 fullShare f2 ∗ allP c arg3 fullShare f3 ∗ allP c arg4 fullShare f4
      ∗ allP c arg6 fullShare f6 ∗ Rest (F := F) c)
    ⊢ WP c (cc0__body (F := F) i arg1 harg1 arg2 harg2 arg3 harg3 arg4 harg4 aM harg5 arg6 harg6 bufM harg7 lnegM harg8 lppM harg9 conM harg10 tvM harg11 tabM harg12 cc0_scratch6 cc0_scratch7) (fun _ =>
      iprop(ringS c Q (T.ring T.nseg) ∗ (∃ W, owes (c : Thread nD τ) 0 W) ∗ allP c arg1 fullShare f1 ∗ allP c arg2 fullShare f2 ∗ allP c arg3 fullShare f3 ∗ allP c arg4 fullShare f4
      ∗ allP c arg6 fullShare (arg6.view.writes (Elt F) f6 [⟨Rect.unit (s := S1x1) ![0, 0] S1x1.size inb_S1x1_S1x1_0_0, lossV c Q T arg3 arg4 f3 f4⟩]) ∗ Rest (F := F) c)) := by
  have hn := T.nseg_le
  iintro ⟨HR, HW, H1, H2, H3, H4, H6, ⟨⟨%fv, HV⟩, HT, HC, ⟨%f8, H8⟩, ⟨%f9, H9⟩, ⟨%f10, H10⟩⟩⟩
  have hg := reads_of c T (labR c arg1 f1) (labC c arg2 f2) fv hT
  irw [cc0__body_eq_skeleton]
  unfold cc0__body_skel
  dsimp only
  iapply (r_bind c)
  iapply (part2_ok c i arg1 harg1 arg2 harg2 arg3 harg3 arg4 harg4 harg5 arg6 harg6 harg7 harg8 harg9 harg10 harg11 harg12 f1 f2) $$ [H1 H2]
  · isplitl [H1] <;> iassumption
  iintro ⟨H1, H2⟩
  iapply (r_bind c)
  iapply (part3_ok c i arg1 harg1 arg2 harg2 arg3 harg3 arg4 harg4 harg5 arg6 harg6 harg7 harg8 harg9 harg10 harg11 harg12 (labR c arg1 f1) (labC c arg2 f2) fv) $$ [HV]
  · iexact HV
  iintro HV
  iapply (r_bind c)
  iapply (part4_ok c Q T i arg1 harg1 arg2 harg2 arg3 harg3 arg4 harg4 harg5 arg6 harg6 harg7 harg8 harg9 harg10 harg11 harg12 _ _ _ _ hg) $$ [HR HV HT HC HW]
  · isplitl [HR]
    · irw [T.start_zero]; iexact HR
    isplitl [HV]; · iexact HV
    isplitl [HT]; · iexact HT
    isplitl [HC]; · iexact HC
    iexact HW
  iintro ⟨HR, HV, HT, HC, HW⟩
  by_cases hn4 : 4 < T.nseg
  · irw [dif_pos ((cond4_fin ⟨T.nseg, by omega⟩).mpr hn4)]
    iapply (r_word c (hg.cls 4 (by omega) hn4) rfl) $$ [HT]
    · iexact HT
    iintro HT
    iapply (r_assume c (chk5_of (T.cls 4).isLt _))
    iapply (r_issue c Q (σ := T.start 4) ⟨4, lt8_4⟩ (T.cls 4) none (T.start_free 4 lt8_4) (grp_congr _ (off5_eq (by have := (T.cls 4).isLt; omega)) _ _) (rslot_congr _ rfl _ _) (csm_congr _ rfl _)) $$ [HR]
    · iexact HR
    iintro HR
    ihave HR := (entails_of_eq (congrArg (ringS c Q) (T.start_issue (i := 4) lt8_4 hn4))) $$ HR
    by_cases hn5 : 5 < T.nseg
    · irw [dif_pos ((cond5_fin ⟨T.nseg, by omega⟩).mpr hn5)]
      iapply (r_word c (hg.cls 5 (by omega) hn5) rfl) $$ [HT]
      · iexact HT
      iintro HT
      iapply (r_assume c (chk6_of (T.cls 5).isLt _))
      iapply (r_issue c Q (σ := T.start 5) ⟨5, lt8_5⟩ (T.cls 5) none (T.start_free 5 lt8_5) (grp_congr _ (off6_eq (by have := (T.cls 5).isLt; omega)) _ _) (rslot_congr _ rfl _ _) (csm_congr _ rfl _)) $$ [HR]
      · iexact HR
      iintro HR
      ihave HR := (entails_of_eq (congrArg (ringS c Q) (T.start_issue (i := 5) lt8_5 hn5))) $$ HR
      by_cases hn6 : 6 < T.nseg
      · irw [dif_pos ((cond6_fin ⟨T.nseg, by omega⟩).mpr hn6)]
        iapply (r_word c (hg.cls 6 (by omega) hn6) rfl) $$ [HT]
        · iexact HT
        iintro HT
        iapply (r_assume c (chk7_of (T.cls 6).isLt _))
        iapply (r_issue c Q (σ := T.start 6) ⟨6, lt8_6⟩ (T.cls 6) none (T.start_free 6 lt8_6) (grp_congr _ (off7_eq (by have := (T.cls 6).isLt; omega)) _ _) (rslot_congr _ rfl _ _) (csm_congr _ rfl _)) $$ [HR]
        · iexact HR
        iintro HR
        ihave HR := (entails_of_eq (congrArg (ringS c Q) (T.start_issue (i := 6) lt8_6 hn6))) $$ HR
        iapply (fin_ok c Q T i arg1 harg1 arg2 harg2 arg3 harg3 arg4 harg4 harg5 arg6 harg6 harg7 harg8 harg9 harg10 harg11 harg12 f1 f2 f3 f4 _ f6 hg) $$ [HR HW H1 H2 H3 H4 H6 HV HT HC H8 H9 H10]
        isplitl [HR]
        · irw [← T.start_seven]; iexact HR
        isplitl [HW]; · iexact HW
        isplitl [H1]; · iexact H1
        isplitl [H2]; · iexact H2
        isplitl [H3]; · iexact H3
        isplitl [H4]; · iexact H4
        isplitl [H6]; · iexact H6
        isplitl [HT]; · iexact HT
        isplitl [HV]; · iexists _; iexact HV
        isplitl [HC]; · iexact HC
        isplitl [H8]; · iexists _; iexact H8
        isplitl [H9]; · iexists _; iexact H9
        iexists _; iexact H10
      · irw [dif_neg (fun h => hn6 ((cond6_fin ⟨T.nseg, by omega⟩).mp h))]
        ihave HR := (entails_of_eq (congrArg (ringS c Q) (T.start_skip (i := 6) hn6))) $$ HR
        iapply (fin_ok c Q T i arg1 harg1 arg2 harg2 arg3 harg3 arg4 harg4 harg5 arg6 harg6 harg7 harg8 harg9 harg10 harg11 harg12 f1 f2 f3 f4 _ f6 hg) $$ [HR HW H1 H2 H3 H4 H6 HV HT HC H8 H9 H10]
        isplitl [HR]
        · irw [← T.start_seven]; iexact HR
        isplitl [HW]; · iexact HW
        isplitl [H1]; · iexact H1
        isplitl [H2]; · iexact H2
        isplitl [H3]; · iexact H3
        isplitl [H4]; · iexact H4
        isplitl [H6]; · iexact H6
        isplitl [HT]; · iexact HT
        isplitl [HV]; · iexists _; iexact HV
        isplitl [HC]; · iexact HC
        isplitl [H8]; · iexists _; iexact H8
        isplitl [H9]; · iexists _; iexact H9
        iexists _; iexact H10
    · irw [dif_neg (fun h => hn5 ((cond5_fin ⟨T.nseg, by omega⟩).mp h))]
      ihave HR := (entails_of_eq (congrArg (ringS c Q) (T.start_skip (i := 5) hn5))) $$ HR
      irw [dif_neg (fun h => hn5 (by have := (cond6_fin ⟨T.nseg, by omega⟩).mp h; dsimp only at this; omega))]
      ihave HR := (entails_of_eq (congrArg (ringS c Q) (T.start_skip (i := 6) (by omega)))) $$ HR
      iapply (fin_ok c Q T i arg1 harg1 arg2 harg2 arg3 harg3 arg4 harg4 harg5 arg6 harg6 harg7 harg8 harg9 harg10 harg11 harg12 f1 f2 f3 f4 _ f6 hg) $$ [HR HW H1 H2 H3 H4 H6 HV HT HC H8 H9 H10]
      isplitl [HR]
      · irw [← T.start_seven]; iexact HR
      isplitl [HW]; · iexact HW
      isplitl [H1]; · iexact H1
      isplitl [H2]; · iexact H2
      isplitl [H3]; · iexact H3
      isplitl [H4]; · iexact H4
      isplitl [H6]; · iexact H6
      isplitl [HT]; · iexact HT
      isplitl [HV]; · iexists _; iexact HV
      isplitl [HC]; · iexact HC
      isplitl [H8]; · iexists _; iexact H8
      isplitl [H9]; · iexists _; iexact H9
      iexists _; iexact H10
  · irw [dif_neg (fun h => hn4 ((cond4_fin ⟨T.nseg, by omega⟩).mp h))]
    ihave HR := (entails_of_eq (congrArg (ringS c Q) (T.start_skip (i := 4) hn4))) $$ HR
    irw [dif_neg (fun h => hn4 (by have := (cond5_fin ⟨T.nseg, by omega⟩).mp h; dsimp only at this; omega))]
    ihave HR := (entails_of_eq (congrArg (ringS c Q) (T.start_skip (i := 5) (by omega)))) $$ HR
    irw [dif_neg (fun h => hn4 (by have := (cond6_fin ⟨T.nseg, by omega⟩).mp h; dsimp only at this; omega))]
    ihave HR := (entails_of_eq (congrArg (ringS c Q) (T.start_skip (i := 6) (by omega)))) $$ HR
    iapply (fin_ok c Q T i arg1 harg1 arg2 harg2 arg3 harg3 arg4 harg4 harg5 arg6 harg6 harg7 harg8 harg9 harg10 harg11 harg12 f1 f2 f3 f4 _ f6 hg) $$ [HR HW H1 H2 H3 H4 H6 HV HT HC H8 H9 H10]
    isplitl [HR]
    · irw [← T.start_seven]; iexact HR
    isplitl [HW]; · iexact HW
    isplitl [H1]; · iexact H1
    isplitl [H2]; · iexact H2
    isplitl [H3]; · iexact H3
    isplitl [H4]; · iexact H4
    isplitl [H6]; · iexact H6
    isplitl [HT]; · iexact HT
    isplitl [HV]; · iexists _; iexact HV
    isplitl [HC]; · iexact HC
    isplitl [H8]; · iexists _; iexact H8
    isplitl [H9]; · iexists _; iexact H9
    iexists _; iexact H10

end Start

end Cert.KernelIdeal.Hand

end
-- ==== Proof.KernelIdeal.Launch.lean ====
module
public import proofs.«01_k».proof.Proof.KernelIdeal.Body
public import proofs.«01_k».proof.Proof.Gen.KernelIdeal.Frame
public import Idealize.ShloMosaic.Lib.VecWindow
public import Idealize.ShloMosaic.Lib.Pipeline.ValueKit.Geometry
public import Idealize.ShloMosaic.Lib.Pipeline.FrameTail

@[expose] public section

/-!
# The launch

The region takes the queue and the ring's buffer and cells apart into eight slots, runs the body, and puts them together
again.  What comes out: every argument as it was, every semaphore at zero, and the output at the loss of the body.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The region's own semaphores, and the queue -/

abbrev osem0 : Fin 9 → SemLoc sig := fun j => (![SemLoc.dma 5, SemLoc.dma 6, SemLoc.dma 7, SemLoc.dma 8, SemLoc.dma 9, SemLoc.dma 10, SemLoc.dma 11, SemLoc.dma 12, SemLoc.dma 13] : Fin 9 → SemLoc sig) j
theorem ownSemFacts0 : Pipeline.OwnSemFacts spec0 osem0 := by decide
abbrev H0 : Finset (Ref sig .tc) := {main_arg4}
theorem H0_sub : H0 ⊆ Pipeline.restRefs sig spec0 := by decide

theorem csm_sem (j : Fin 8) : SemLoc.dma (sig := sig) (csm j).sem = osem0 ⟨j.val, by omega⟩ := by
  fin_cases j <;> rfl
theorem tsm_sem : SemLoc.dma (sig := sig) cc0_scratch7.sem = osem0 8 := rfl

/-- The region's own cells: the eight of the ring, and the table's. -/
theorem ownSems_eq (c : Dev nD) :
    (Pipeline.ownSems0 osem0 c : sProp 𝕄) = iprop(cellT (F := F) c ∗ bigSep Finset.univ fun j : Fin 8 => cellP (F := F) c j) := by
  rw [Pipeline.ownSems0_eq_of_list c osem0 [8, 0, 1, 2, 3, 4, 5, 6, 7] (by decide) (by decide),
    bigSep_univ_eq_bigSepL [(0 : Fin 8), 1, 2, 3, 4, 5, 6, 7] (by decide) (by decide) (fun j => cellP (F := F) c j)]
  rfl

theorem hbmPts_eq (c : Dev nD) (W : (b : Ref sig .tc) → Buf (Elt F) ((c : Thread nD τ).loc b)) :
    (bigSep H0 fun b => ((c : Thread nD τ).loc b) ↦{fullShare} W b : sProp 𝕄) = (((c : Thread nD τ).loc main_arg4) ↦{fullShare} W main_arg4) := by
  rw [BI.bigSep_eq_bigSepL_of_eq [main_arg4] (by decide) (by decide)]; rfl

/-! ## The ring's buffer by slots -/

/-- The elements of slot `j`. -/
abbrev slotI (j : Fin 8) : Finset S8x128x4096.Idx := (slotR j).set

theorem rslot_set (j : Fin 8) : (rslot j).view.set = slotI j :=
  (View.set_reshape _ _).trans (View.set_slice_whole _ _)

theorem slots_disj (j j' : Fin 8) (h : j ≠ j') : Disjoint (slotI j) (slotI j') := by
  rw [Finset.disjoint_left]
  intro x hx hx'
  have h1 := (Rect.mem_set_unit.mp hx) 0
  have h2 := (Rect.mem_set_unit.mp hx') 0
  have e1 : j.val ≤ (x 0).val ∧ (x 0).val < j.val + 1 := h1
  have e2 : j'.val ≤ (x 0).val ∧ (x 0).val < j'.val + 1 := h2
  exact h (Fin.ext (by omega))

theorem slots_cover : Finset.univ.biUnion (fun j : Fin 8 => slotI j) = Finset.univ := by
  refine Finset.eq_univ_iff_forall.mpr fun (x : S8x128x4096.Idx) => ?_
  refine Finset.mem_biUnion.mpr ⟨⟨(x 0).val, (x 0).isLt⟩, Finset.mem_univ _, ?_⟩
  refine Rect.mem_set_unit.mpr fun a => ?_
  fin_cases a
  · exact ⟨le_refl _, Nat.lt_succ_self _⟩
  · exact ⟨Nat.zero_le _, by have := (x 1).isLt; simpa using this⟩
  · exact ⟨Nat.zero_le _, by have := (x 2).isLt; simpa using this⟩

section Ring

variable (c : Dev nD) (Q : Buf (Elt F) (aM.view.loc (c : Thread nD τ)))

theorem sep_three (A B C : Fin 8 → sProp 𝕄) : bigSep Finset.univ (fun j => iprop(A j ∗ B j ∗ C j))
    = iprop(bigSep Finset.univ A ∗ bigSep Finset.univ B ∗ bigSep Finset.univ C) := by
  have h1 := bigSep_sep (Finset.univ : Finset (Fin 8)) A (fun j => iprop(B j ∗ C j))
  have h2 := bigSep_sep (Finset.univ : Finset (Fin 8)) B C
  exact h1.trans (congrArg (fun X => iprop(bigSep Finset.univ A ∗ X)) h2)

abbrev cellsP : sProp 𝕄 := bigSep Finset.univ (fun j : Fin 8 => cellP (F := F) c j)
abbrev toksP : sProp 𝕄 := bigSep Finset.univ (fun j : Fin 8 => (aM.view.loc (c : Thread nD τ) ↦[Finset.univ]{qsh j} Q))
abbrev slotsP : sProp 𝕄 := bigSep Finset.univ (fun j : Fin 8 => iprop(∃ f : Buf (Elt F) ((c : Thread nD τ).loc cc0_scratch0), ((c : Thread nD τ).loc cc0_scratch0) ↦[slotI j]{fullShare} f))

theorem ringS_none : ringS c Q (fun _ => .rest none) = iprop(cellsP (F := F) c ∗ toksP c Q ∗ slotsP (F := F) c) := by
  rw [← sep_three]
  unfold ringS
  refine bigSep_congr fun j _ => ?_
  rw [slotS_none, ← rslot_set]; rfl

theorem slot_any (f : Buf (Elt F) ((c : Thread nD τ).loc cc0_scratch0)) (j : Fin 8) : (((c : Thread nD τ).loc cc0_scratch0) ↦[slotI j]{fullShare} f : sProp 𝕄)
    ⊢ iprop(∃ f : Buf (Elt F) ((c : Thread nD τ).loc cc0_scratch0), ((c : Thread nD τ).loc cc0_scratch0) ↦[slotI j]{fullShare} f) := by
  iintro H; iexists f; iexact H

theorem slots_split (f : Buf (Elt F) ((c : Thread nD τ).loc cc0_scratch0)) : (((c : Thread nD τ).loc cc0_scratch0) ↦{fullShare} f : sProp 𝕄) ⊢ slotsP (F := F) c := by
  refine (entails_of_eq (Ring.pointsTo_blocks (ℓ := (c : Thread nD τ).loc cc0_scratch0) slotI slots_disj slots_cover f)).trans ?_
  exact bigSep_mono fun j _ => slot_any c f j

theorem slots_join : slotsP (F := F) c ⊢ iprop(∃ f : Buf (Elt F) ((c : Thread nD τ).loc cc0_scratch0), ((c : Thread nD τ).loc cc0_scratch0) ↦{fullShare} f) :=
  Ring.pointsTo_blocks_join_exists (ℓ := (c : Thread nD τ).loc cc0_scratch0) slotI slots_disj slots_cover (Classical.arbitrary _)

/-- The ring from the buffer, the cells and the queue; what remains of the queue is kept. -/
theorem ring_in : iprop(cellsP (F := F) c ∗ (∃ f : Buf (Elt F) ((c : Thread nD τ).loc cc0_scratch0), ((c : Thread nD τ).loc cc0_scratch0) ↦{fullShare} f)
      ∗ (((c : Thread nD τ).loc main_arg4) ↦{fullShare} Q))
    ⊢ iprop(ringS c Q (fun _ => .rest none) ∗ (((c : Thread nD τ).loc main_arg4) ↦{Transfers.shareDrop fullShare 8} Q)) := by
  rw [ringS_none]
  iintro ⟨HC, ⟨%f, HB⟩, HQ⟩
  ihave HQ := (Transfers.pointsTo_toks_split (fullShare) 8) $$ HQ
  icases HQ with ⟨HR, HT⟩
  isplitr [HR]
  · isplitl [HC]; · iexact HC
    isplitl [HT]; · iexact HT
    iapply (slots_split c f); iexact HB
  iexact HR

/-- And back. -/
theorem ring_out : iprop(ringS c Q (fun _ => .rest none) ∗ (((c : Thread nD τ).loc main_arg4) ↦{Transfers.shareDrop fullShare 8} Q))
    ⊢ iprop(cellsP (F := F) c ∗ (∃ f : Buf (Elt F) ((c : Thread nD τ).loc cc0_scratch0), ((c : Thread nD τ).loc cc0_scratch0) ↦{fullShare} f)
      ∗ (((c : Thread nD τ).loc main_arg4) ↦{fullShare} Q)) := by
  rw [ringS_none]
  iintro ⟨⟨HC, HT, HB⟩, HR⟩
  isplitl [HC]; · iexact HC
  isplitl [HB]
  · iapply (slots_join c); iexact HB
  iapply (Transfers.pointsTo_toks_join fullShare 8)
  isplitl [HR]; · iexact HR
  iexact HT

/-- At the end of the loop every slot rests. -/
theorem ring_rest (T : Tab) : ringS c Q (T.ring T.nseg) ⊢ ringS c Q (fun _ => .rest none) := by
  unfold ringS
  refine bigSep_mono fun j _ => ?_
  obtain ⟨kp, h⟩ : ∃ kp, T.ring T.nseg j = .rest kp := ⟨_, by unfold Tab.ring; rw [if_neg (by omega)]⟩
  rw [h]
  exact slot_forget c Q j kp

end Ring

/-! ## What the region holds between its points -/

/-- The region's invariant, for this kernel. -/
theorem PhiD_eq (c : Dev nD) (W : (c : Dev nD) → (b : Ref sig .tc) → Buf (Elt F) ((c : Thread nD τ).loc b)) :
    (Pipeline.ΦD osem0 spec0 H0 W c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f)
          ∗ (∃ f : Buf (Elt F) ((c : Thread nD τ).loc cc0_scratch3), ((c : Thread nD τ).loc cc0_scratch3) ↦{fullShare} f)
          ∗ (∃ f : Buf (Elt F) ((c : Thread nD τ).loc cc0_scratch4), ((c : Thread nD τ).loc cc0_scratch4) ↦{fullShare} f)
          ∗ (∃ f : Buf (Elt F) ((c : Thread nD τ).loc cc0_scratch5), ((c : Thread nD τ).loc cc0_scratch5) ↦{fullShare} f))
        ∗ (∃ r, prngReg c r)
        ∗ (cellT (F := F) c ∗ cellsP (F := F) c)
        ∗ (((c : Thread nD τ).loc main_arg4) ↦{fullShare} W c main_arg4)) := by
  rw [Pipeline.ΦD_eq, scopedRest0_eq, ownSems_eq, hbmPts_eq]

/-! ## The region's proof data -/

variable (m : (ℓ : Loc nD τ sig) → Buf (Elt F) ℓ) (ρ : Dev nD → PrngReg) (T : Dev nD → Tab)

/-- The blocks of the four inputs, as the body finds them. -/
abbrev inLabR (c : Dev nD) : Vec F S1x128 .i32 := iblk m c 0 t0_0
abbrev inLabC (c : Dev nD) : Vec F S128x1 .i32 := iblk m c 1 t0_0
abbrev inQ (c : Dev nD) : Vec F S128x128 .f32 := iblk m c 2 t0_0
abbrev inK (c : Dev nD) : Vec F S128x128 .f32 := iblk m c 3 t0_0

/-- The loss the region leaves. -/
abbrev outV (c : Dev nD) : Vec F S1x1 .f32 :=
  lossV c (V m c main_arg4) (T c) (Memref.whole cc0_stg2_0) (Memref.whole cc0_stg3_0) (inQ m c) (inK m c)

def dats (_ : Fin 1) (c : Dev nD) : Dat τ (Elt F) Unit ℕ (Pipeline.UD sig nD τ) ℕ cfg0 c where
  A w := V m c (Pipeline.arrRef spec0 w)
  after w t := match w with
    | 0 => iblk m c 0 t
    | 1 => iblk m c 1 t
    | 2 => iblk m c 2 t
    | 3 => iblk m c 3 t
    | 4 => outV m T c
  Φ _ := Pipeline.ΦD osem0 spec0 H0 (V m) c
  q _ := fullShare
  owed _ := 0

theorem A_eq (c : Dev nD) (w : Fin cfg0.W) : (dats m T 0 c).A w = V m c (Pipeline.arrRef spec0 w) := by
  dsimp only [dats]

theorem before_0 (c : Dev nD) (t : Fin cfg0.N) (d) : (dats m T 0 c).before 0 t d = iblk m c 0 t :=
  ((dats m T 0 c).before_in_eq_fetched 0 rfl (fun _ => rfl) (fun _ _ _ => rfl) (fun _ => rfl) t d).trans rfl
theorem before_1 (c : Dev nD) (t : Fin cfg0.N) (d) : (dats m T 0 c).before 1 t d = iblk m c 1 t :=
  ((dats m T 0 c).before_in_eq_fetched 1 rfl (fun _ => rfl) (fun _ _ _ => rfl) (fun _ => rfl) t d).trans rfl
theorem before_2 (c : Dev nD) (t : Fin cfg0.N) (d) : (dats m T 0 c).before 2 t d = iblk m c 2 t :=
  ((dats m T 0 c).before_in_eq_fetched 2 rfl (fun _ => rfl) (fun _ _ _ => rfl) (fun _ => rfl) t d).trans rfl
theorem before_3 (c : Dev nD) (t : Fin cfg0.N) (d) : (dats m T 0 c).before 3 t d = iblk m c 3 t :=
  ((dats m T 0 c).before_in_eq_fetched 3 rfl (fun _ => rfl) (fun _ _ _ => rfl) (fun _ => rfl) t d).trans rfl

abbrev ms_0 : Memref sig .tc .vmem S1x128 .i32 := Memref.whole cc0_stg0_0
abbrev ms_1 : Memref sig .tc .vmem S128x1 .i32 := Memref.whole cc0_stg1_0
abbrev ms_2 : Memref sig .tc .vmem S128x128 .f32 := Memref.whole cc0_stg2_0
abbrev ms_3 : Memref sig .tc .vmem S128x128 .f32 := Memref.whole cc0_stg3_0
abbrev ms_4 : Memref sig .tc .vmem S1x1 .f32 := Memref.whole cc0_stg4_0

/-- The body at the one point, on the staging buffers by name. -/
abbrev bodyW : Prog (TpuEff nD τ sig (Elt F) Λ₀ .tc) PUnit :=
  cc0__body (grid0.coords t0_0) ms_0 (Memref.isWhole_whole _) ms_1 (Memref.isWhole_whole _) ms_2 (Memref.isWhole_whole _) ms_3 (Memref.isWhole_whole _)
    aM (Memref.isWhole_whole _) ms_4 (Memref.isWhole_whole _) bufM (Memref.isWhole_whole _) lnegM (Memref.isWhole_whole _) lppM (Memref.isWhole_whole _)
    conM (Memref.isWhole_whole _) tvM (Memref.isWhole_whole _) tabM (Memref.isWhole_whole _) cc0_scratch6 cc0_scratch7

/-- What a stage's whole buffer read at its full window is. -/
theorem labR_whole (c : Dev nD) (x : Vec F S1x128 .i32) : labR (F := F) c ms_0 x = x := View.readAt_full _ _ _
theorem labC_whole (c : Dev nD) (x : Vec F S128x1 .i32) : labC (F := F) c ms_1 x = x := View.readAt_full _ _ _

abbrev stP (c : Dev nD) {s : Shape} {e : EltTy} (M : Memref sig .tc .vmem s e) (d : s.Idx → Elt F e) : sProp 𝕄 := owns (c : Thread nD τ) M fullShare d

theorem ms_4_writes (c : Dev nD) (f : Buf (Elt F) (ms_4.view.loc (c : Thread nD τ))) (x : Vec F S1x1 .f32) :
    ms_4.view.writes (Elt F) f [⟨Rect.unit (s := S1x1) ![0, 0] S1x1.size inb_S1x1_S1x1_0_0, x⟩] = x :=
  View.read_writes_full ms_4.view f _ x []

theorem body_stages (c : Dev nD) (hT : Tabulates (inLabR m c) (inLabC m c) (T c)) (d4 : Vec F S1x1 .f32) :
    iprop(Pipeline.ΦD osem0 spec0 H0 (V m) c ∗ (∃ W, owes (c : Thread nD τ) 0 W)
      ∗ stP c ms_0 (inLabR m c) ∗ stP c ms_1 (inLabC m c) ∗ stP c ms_2 (inQ m c) ∗ stP c ms_3 (inK m c) ∗ stP c ms_4 d4)
    ⊢ WP c (bodyW (F := F)) (fun _ => iprop(Pipeline.ΦD osem0 spec0 H0 (V m) c ∗ (∃ W, owes (c : Thread nD τ) 0 W)
      ∗ stP c ms_0 (inLabR m c) ∗ stP c ms_1 (inLabC m c) ∗ stP c ms_2 (inQ m c) ∗ stP c ms_3 (inK m c) ∗ stP c ms_4 (outV m T c))) := by
  have hT' : Tabulates (labR c ms_0 (inLabR m c)) (labC c ms_1 (inLabC m c)) (T c) := by
    rw [labR_whole, labC_whole]; exact hT
  have hb := body_ok c (V m c main_arg4) (T c) (grid0.coords t0_0) ms_0 (Memref.isWhole_whole _) ms_1 (Memref.isWhole_whole _) ms_2 (Memref.isWhole_whole _) ms_3 (Memref.isWhole_whole _)
    (Memref.isWhole_whole _) ms_4 (Memref.isWhole_whole _) (Memref.isWhole_whole _) (Memref.isWhole_whole _) (Memref.isWhole_whole _)
    (Memref.isWhole_whole _) (Memref.isWhole_whole _) (Memref.isWhole_whole _) (inLabR m c) (inLabC m c) (inQ m c) (inK m c) hT' d4
  rw [ms_4_writes c] at hb
  have hf := (sep_mono_left (Q := iprop((∃ r, prngReg c r) ∗ (((c : Thread nD τ).loc main_arg4) ↦{Transfers.shareDrop fullShare 8} V m c main_arg4))) hb).trans
    (wp_frame_r frame (wpE (defs₀ (F := F)) 𝒱₀ (c : Thread nD τ) none) Set.univ)
  refine BIBase.Entails.trans ?_ (hf.trans (wp_mono frame (wpE (defs₀ (F := F)) 𝒱₀ (c : Thread nD τ) none) Set.univ fun _ => ?_))
  · rw [PhiD_eq]
    unfold stP Rest
    simp only [ms_0, ms_1, ms_2, ms_3, ms_4, owns_whole]
    iintro ⟨⟨⟨HS0, HS1, HS2, HS3, HS4, HS5⟩, Hg, ⟨HC, HR⟩, HQ⟩, HW, H0, H1, H2, H3, H4⟩
    ihave HR := (ring_in c (V m c main_arg4)) $$ [HR HS0 HQ]
    · isplitl [HR]; · iexact HR
      isplitl [HS0]; · iexact HS0
      iexact HQ
    icases HR with ⟨HR, HQ⟩
    isplitr [Hg HQ]
    · isplitl [HR]; · iexact HR
      isplitl [HW]; · iexact HW
      isplitl [H0]; · iexact H0
      isplitl [H1]; · iexact H1
      isplitl [H2]; · iexact H2
      isplitl [H3]; · iexact H3
      isplitl [H4]; · iexact H4
      isplitl [HS4]; · iexact HS4
      isplitl [HS5]; · iexact HS5
      isplitl [HC]; · iexact HC
      isplitl [HS1]; · iexact HS1
      isplitl [HS2]; · iexact HS2
      iexact HS3
    isplitl [Hg]; · iexact Hg
    iexact HQ
  · rw [PhiD_eq]
    unfold stP Rest
    simp only [ms_0, ms_1, ms_2, ms_3, ms_4, owns_whole]
    iintro ⟨⟨HR, HW, H0, H1, H2, H3, H4, ⟨HS4, HS5, HC, HS1, HS2, HS3⟩⟩, Hg, HQ⟩
    ihave HR := (ring_rest c (V m c main_arg4) (T c)) $$ HR
    ihave HR := (ring_out c (V m c main_arg4)) $$ [HR HQ]
    · isplitl [HR]; · iexact HR
      iexact HQ
    icases HR with ⟨HR, HS0, HQ⟩
    isplitr [HW H0 H1 H2 H3 H4]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      isplitl [Hg]; · iexact Hg
      isplitl [HC HR]
      · isplitl [HC]; · iexact HC
        iexact HR
      iexact HQ
    isplitl [HW]; · iexact HW
    isplitl [H0]; · iexact H0
    isplitl [H1]; · iexact H1
    isplitl [H2]; · iexact H2
    isplitl [H3]; · iexact H3
    iexact H4

/-! ## The obligation of the region -/

theorem sound_body (c : Dev nD) (t : Fin cfg0.N) (hT : Tabulates (inLabR m c) (inLabC m c) (T c)) :
    iprop((dats m T 0 c).Φ t.castSucc ∗ (dats m T 0 c).owesAt () t.castSucc
      ∗ (∃ d, stP c ms_0 ((dats m T 0 c).before 0 t d)) ∗ (∃ d, stP c ms_1 ((dats m T 0 c).before 1 t d)) ∗ (∃ d, stP c ms_2 ((dats m T 0 c).before 2 t d))
      ∗ (∃ d, stP c ms_3 ((dats m T 0 c).before 3 t d)) ∗ (∃ d, stP c ms_4 ((dats m T 0 c).before 4 t d)))
    ⊢ WP c (bodyAt0 (F := F) t) (fun _ => iprop((dats m T 0 c).Φ t.succ ∗ (dats m T 0 c).owesAt () t.succ
      ∗ stP c ms_0 ((dats m T 0 c).after 0 t) ∗ stP c ms_1 ((dats m T 0 c).after 1 t) ∗ stP c ms_2 ((dats m T 0 c).after 2 t)
      ∗ stP c ms_3 ((dats m T 0 c).after 3 t) ∗ stP c ms_4 ((dats m T 0 c).after 4 t))) := by
  obtain rfl := fin_N0 t
  simp only [before_0, before_1, before_2, before_3]
  unfold Dat.owesAt Pipeline.owesWithin
  rw [show (dats m T 0 c).Φ (Fin.castSucc t0_0) = Pipeline.ΦD osem0 spec0 H0 (V m) c from rfl, show (dats m T 0 c).Φ (Fin.succ t0_0) = Pipeline.ΦD osem0 spec0 H0 (V m) c from rfl,
    show (dats m T 0 c).owed (Fin.castSucc t0_0) = 0 from rfl, show (dats m T 0 c).owed (Fin.succ t0_0) = 0 from rfl]
  iintro ⟨HΦ, ⟨%W, -, HW⟩, ⟨%d0, H0⟩, ⟨%d1, H1⟩, ⟨%d2, H2⟩, ⟨%d3, H3⟩, ⟨%d4, H4⟩⟩
  ihave HB := (body_stages m T c hT ((dats m T 0 c).before 4 t0_0 d4)) $$ [HΦ HW H0 H1 H2 H3 H4]
  · isplitl [HΦ]; · iexact HΦ
    isplitl [HW]; · iexists W; iexact HW
    isplitl [H0]; · iexact H0
    isplitl [H1]; · iexact H1
    isplitl [H2]; · iexact H2
    isplitl [H3]; · iexact H3
    iexact H4
  iapply (wp_mono frame (wpE (defs₀ (F := F)) 𝒱₀ (c : Thread nD τ) none) Set.univ (p := bodyW (F := F)) fun _ => ?_) $$ HB
  iintro ⟨HΦ, ⟨%W', HW⟩, H0, H1, H2, H3, H4⟩
  isplitl [HΦ]; · iexact HΦ
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) (hT : Tabulates (inLabR m c) (inLabC m c) (T c)) :
    BodyObligation (dats (F := F) m T 0 c) (defs₀ (F := F)) Variants.none () Set.univ := fun t => by
  rw [bigSep_W0, bigSep_W0, defs₀_row]
  obtain rfl := fin_N0 t
  exact triple_restated (sound_body m T c t0_0 hT) rfl .rfl fun _ => .rfl

/-! ## The run -/

set_option maxHeartbeats 800000 in
theorem hmain' : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut _ _ H0 op ((List.forall_iff_forall_mem.mp hostOps1_sub) op hop) (fun k => k.elim0) ?_
  intro b hb
  simp only [hostOps1, List.mem_cons, List.mem_nil_iff, or_false] at hop
  subst hop
  rw [Finset.mem_singleton.mp hb, StableHlo.reshape_bufs, Finset.mem_insert, Finset.mem_singleton]
  exact not_or.mpr ⟨StableHlo.devRef_ne_of_ne (by decide), StableHlo.devRef_ne_of_ne (by decide)⟩

set_option backward.isDefEq.respectTransparency.types false in
/-- The region run, with the arrays and the semaphores it leaves. -/
theorem run_main (hT : ∀ c, Tabulates (inLabR m c) (inLabC m c) (T c)) :
    θ_run defs (onTc (τ := τ) (main (F := F))) (s₀ m ρ)
      (fun r => Pipeline.FramePost cfgs (dats m T) 0 (Pipeline.afterTail₀ cfgs (dats m T) 0 (V0 m) [hostOps1]) r ∧ r.2.sem = fun _ => 0) :=
  Pipeline.θ_run_frame_dma_around (Q' := _) cfgs (dats m T) (0 : Fin 1) launch0 osem0 defs₀ Variants.none ownSemFacts0 H0 H0_sub m ρ main
    (hbody := fun c => (body_obligation m T c (hT c)).loose) (hshare := fun c => (dats m T 0 c).share_full fun _ => rfl)
    (howed := fun _ _ => rfl) (V₀ := V0 m) (opss := [hostOps1]) (hsub := tail_sub) (hfresh := sfx_fresh) (hkeep := sfx_keeps)
    (hmain := hmain' m) (hA := A_eq m T)
    (hin := fun _ => .rfl) (hout := fun _ => .rfl)

/-! ## The arguments after the run -/

theorem W_main_arg2' (c : Dev nD) :
    Pipeline.afterTail₀ cfgs (dats m T) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3' (c : Dev nD) :
    Pipeline.afterTail₀ cfgs (dats m T) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg4' (c : Dev nD) :
    Pipeline.afterTail₀ cfgs (dats m T) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- The single entry of the loss, as the scalar result. -/
def lossOut (c : Dev nD) : Vec F S_ .f32 := shapeCast S_ (outV m T c) shapeCasts_S1x1_S_

/-- The output's array after the run. -/
theorem final_out (c : Dev nD) : (dats m T 0 c).arrAt 4 cfg0.N = outV m T c := by
  refine (dats m T 0 c).arrAt_eq_of_after_last 4 t0_0 (by decide +kernel) (outV m T c) fun j => ?_
  rfl

theorem W_main_v3 (c : Dev nD) :
    Pipeline.afterTail₀ cfgs (dats m T) 0 (V0 m) [hostOps1] c main_v3 = lossOut m T c := by
  unfold Pipeline.afterTail₀
  simp only [List.flatten_cons, List.flatten_nil, List.append_nil, StableHlo.after_cons, StableHlo.after_nil]
  rw [StableHlo.reshape_result]
  erw [Pipeline.withArrays_arr spec0 launch0.win.arr_inj c (V0 m c) _ 4]
  rw [show (dats m T 0 c).arrAt 4 (cfgs 0).N = outV m T c from final_out m T c]
  rfl

/-! ## The four blocks, by the arguments -/

theorem inQ_eq (c : Dev nD) : inQ m c = m ((c : Thread nD τ).loc main_arg0) := by
  rw [← V_main_arg0 m c]; funext y
  exact congrArg (V m c main_arg0) (funext fun a => Fin.ext (Pipeline.Window.rect_emb_val_of_index_zero win0_2 t0_0 a (by fin_cases a <;> rfl) y))
theorem inK_eq (c : Dev nD) : inK m c = m ((c : Thread nD τ).loc main_arg1) := by
  rw [← V_main_arg1 m c]; funext y
  exact congrArg (V m c main_arg1) (funext fun a => Fin.ext (Pipeline.Window.rect_emb_val_of_index_zero win0_3 t0_0 a (by fin_cases a <;> rfl) y))
theorem V_main_v0 (c : Dev nD) : V m c main_v0 = shapeCast S1x128 (m ((c : Thread nD τ).loc main_arg3)) shapeCasts_S128_S1x128 := by
  unfold V V0
  simp only [List.flatten_cons, List.flatten_nil, List.append_nil]
  after_region_results
  rfl
theorem V_main_v1 (c : Dev nD) : V m c main_v1 = shapeCast S128x1 (m ((c : Thread nD τ).loc main_arg3)) shapeCasts_S128_S128x1 := by
  unfold V V0
  simp only [List.flatten_cons, List.flatten_nil, List.append_nil]
  after_region_results
  rfl
theorem inLabR_eq (c : Dev nD) : inLabR m c = shapeCast S1x128 (m ((c : Thread nD τ).loc main_arg3)) shapeCasts_S128_S1x128 := by
  rw [← V_main_v0 m c]; funext y
  exact congrArg (V m c main_v0) (funext fun a => Fin.ext (Pipeline.Window.rect_emb_val_of_index_zero win0_0 t0_0 a (by fin_cases a <;> rfl) y))
theorem inLabC_eq (c : Dev nD) : inLabC m c = shapeCast S128x1 (m ((c : Thread nD τ).loc main_arg3)) shapeCasts_S128_S128x1 := by
  rw [← V_main_v1 m c]; funext y
  exact congrArg (V m c main_v1) (funext fun a => Fin.ext (Pipeline.Window.rect_emb_val_of_index_zero win0_1 t0_0 a (by fin_cases a <;> rfl) y))

/-- The run of the kernel: its result is the loss, its arguments stay, its semaphores end at zero. -/
theorem run_value (hT : ∀ c, Tabulates (inLabR m c) (inLabC m c) (T c)) :
    θ_run defs (onTc (τ := τ) (main (F := F))) ⟨m, fun _ => 0, ρ⟩ (fun r => (∀ c : Dev nD,
      r.2.mem ((c.tc : Thread nD τ).loc main_v3) = lossOut m T c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      (((h.1 c).2 main_v3 (Pipeline.mem_restRefs_of main_v3 (by decide) (by decide))).trans (W_main_v3 m T c)),
      ((h.1 c).1 2).trans (((dats m T 0 c).arrAt_in 2 rfl _).trans ((A_eq m T c 2).trans (V_main_arg0 m c))),
      ((h.1 c).1 3).trans (((dats m T 0 c).arrAt_in 3 rfl _).trans ((A_eq m T c 3).trans (V_main_arg1 m c))),
      (((h.1 c).2 main_arg2 (Pipeline.mem_restRefs_of main_arg2 (by decide) (by decide))).trans (W_main_arg2' m T c)),
      (((h.1 c).2 main_arg3 (Pipeline.mem_restRefs_of main_arg3 (by decide) (by decide))).trans (W_main_arg3' m T c)),
      (((h.1 c).2 main_arg4 (Pipeline.mem_restRefs_of main_arg4 (by decide) (by decide))).trans (W_main_arg4' m T c))⟩, h.2⟩) (run_main m ρ T hT)

end Cert.KernelIdeal.Hand

end
-- ==== Proof.KernelIdeal.Sorting.lean ====
/-
  The table's rows are what they should be: of labels below 100, laid out as a row and as a column, the counting
  comparisons tabulate the rows' order by label.
-/
module

public import proofs.«01_k».proof.Proof.KernelIdeal.Launch
public import proofs.«01_k».proof.Proof.Sort
public import proofs.«01_k».proof.Proof.Counting

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Sorting Counting

variable {F : FTy → Type} [FloatOps F] [Named F]

section Readings

variable (l : Fin 128 → Fin 100)

/-- The labels as a row and as a column. -/
abbrev lrow : Vec F S1x128 .i32 := Counting.row fun j => w (l j).val
abbrev lcol : Vec F S128x1 .i32 := Counting.col fun n => w (l n).val

theorem lab31 (n : Fin 128) : (l n).val < 2 ^ 31 := by have := (l n).isLt; omega
theorem fin31 (n : Fin 128) : n.val < 2 ^ 31 := by have := n.isLt; omega
theorem pos31 (n : Fin 128) : pos l n < 2 ^ 31 := by have := pos_lt l n; omega

theorem val9 : k0_pay9 (F := F) (lrow l) (lcol l) = mat fun n j => bit ((l n).val = (l j).val) := by
  unfold k0_pay9 k0_pay8 k0_pay7
  dsimp only
  rw [shapeCast_id, shapeCast_id, bcast_col, bcast_row, cmpi_mat]
  exact mat_congr fun n j => cmp_eq (lab31 l n) (lab31 l j)

theorem cmp_iota_sgt : cmpi .sgt (iota .tc S128x128 32 [0] iota_S128x128_d0_w32) (iota .tc S128x128 32 [1] iota_S128x128_d1_w32)
    = mat fun n j => bit (j.val < n.val) := by
  rw [iota_0, iota_1, cmpi_mat]; exact mat_congr fun n j => cmp_sgt (fin31 n) (fin31 j)

theorem cmp_iota_slt : cmpi .slt (iota .tc S128x128 32 [0] iota_S128x128_d0_w32) (iota .tc S128x128 32 [1] iota_S128x128_d1_w32)
    = mat fun n j => bit (n.val < j.val) := by
  rw [iota_0, iota_1, cmpi_mat]; exact mat_congr fun n j => cmp_slt (fin31 n) (fin31 j)

theorem val10 : k0_pay10 (F := F) (lrow l) (lcol l) = mat fun n j => bit (key l j < key l n) := by
  unfold k0_pay10
  dsimp only
  rw [val9, cmp_iota_sgt]
  unfold k0_pay8 k0_pay7
  dsimp only
  rw [shapeCast_id, shapeCast_id, bcast_col, bcast_row, cmpi_mat, andi_mat]
  simp only [cmp_sgt (lab31 l _) (lab31 l _)]
  rw [ori_mat (fun n j => (l j).val < (l n).val) (fun n j => (l n).val = (l j).val ∧ j.val < n.val)]
  refine mat_congr fun n j => ?_
  exact bit_congr (key_lt_iff l j n).symm

theorem val11 : k0_pay11 (F := F) (lrow l) (lcol l) = Counting.col fun n => w (pos l n) := by
  unfold k0_pay11
  dsimp only
  rw [val10]
  exact count1 (fun n j => key l j < key l n) _ _ _ _

theorem val12 : k0_pay12 (F := F) (lrow l) (lcol l) = Counting.row fun j => w (pos l j) := by
  unfold k0_pay12
  dsimp only
  rw [val10]
  refine (congrArg (subi (broadcast S1x128 127#32)) (count0 (fun n j => key l j < key l n) _ _ _ _)).trans (funext fun z => ?_)
  show w 127 - w _ = w _
  rw [w_sub (pos_after l (z 1)).2, (pos_after l (z 1)).1]

theorem val13 : k0_pay13 (F := F) (lrow l) (lcol l) = Counting.col fun n => bit (first l n) := by
  unfold k0_pay13
  dsimp only
  rw [val9, cmp_iota_sgt, andi_mat]
  refine (congrArg (fun v => cmpi .eq v (broadcast S128x1 0#32)) (count1 (fun n j => (l n).val = (l j).val ∧ j.val < n.val) _ _ _ _)).trans (col_congr (f := fun n => IntOp.cmpi .eq (w (Finset.univ.filter fun j => (l n).val = (l j).val ∧ j.val < n.val).card) (w 0)) fun n => ?_)
  rw [cmp_eq (card_lt _) (by norm_num)]
  exact bit_congr (first_iff l n)

theorem val14 : k0_pay14 (F := F) (lrow l) (lcol l) = Counting.row fun j => bit (first l j) := by
  unfold k0_pay14
  dsimp only
  rw [val9, cmp_iota_slt, andi_mat]
  refine (congrArg (fun v => cmpi .eq v (broadcast S1x128 0#32)) (count0 (fun n j => (l n).val = (l j).val ∧ n.val < j.val) _ _ _ _)).trans (row_congr (f := fun j => IntOp.cmpi .eq (w (Finset.univ.filter fun n => (l n).val = (l j).val ∧ n.val < j.val).card) (w 0)) fun j => ?_)
  rw [cmp_eq (card_lt _) (by norm_num)]
  refine bit_congr (Iff.trans ?_ (first_iff l j))
  rw [Finset.filter_congr fun n _ => and_congr_left' (eq_comm (a := (l n).val))]

theorem val15 : k0_pay15 (F := F) (lrow l) (lcol l) = mat fun n j => bit (pos l n = j.val) := by
  unfold k0_pay15
  dsimp only
  rw [val11, bcast_col, iota_1, cmpi_mat]
  exact mat_congr fun n j => cmp_eq (pos31 l n) (fin31 j)

/-- The table's last row is the rows' order. -/
theorem rowOrd_eq : rowOrd (F := F) (lrow l) (lcol l) = Counting.row fun p => w (ord l p).val := by
  unfold rowOrd k0_pay24 k0_pay16
  dsimp only
  rw [val15, iota_0, shapeCast_id]
  refine (sum_axis0 (fun n j => Scalar.select (bit (pos l n = j.val)) (w n.val) (w 0)) _ _ _).trans (row_congr fun p => ?_)
  simp only [bit_sel]
  rw [w_sum, sum_ord]

/-- The third row marks the places that begin a segment. -/
theorem rowFst_eq : rowFst (F := F) (lrow l) (lcol l) = Counting.row fun p => w (if first l (ord l p) then 1 else 0) := by
  unfold rowFst k0_pay22 k0_pay18 k0_pay17
  dsimp only
  rw [val15, val13, shapeCast_id, bcast_col, andi_mat (fun n j => pos l n = j.val) (fun n _ => first l n)]
  refine (count0 (fun n j => pos l n = j.val ∧ first l n) _ _ _ _).trans (row_congr fun p => ?_)
  rw [card_first]

/-- The fourth row holds the number of segments. -/
theorem rowNum_eq : rowNum (F := F) (lrow l) (lcol l) = Counting.row fun _ => w (cnt l 128) := by
  unfold rowNum k0_pay23 k0_pay19
  dsimp only
  rw [val13, shapeCast_id]
  refine (congrArg (fun b => addi (broadcast S1x128 0#32) (broadcast S1x128 b)) (sum_whole (fun n => (bit (first l n)).setWidth 32) _ _ _ _ _)).trans ?_
  rw [sum_bits, ← cnt_all]
  funext z
  exact BitVec.zero_add _

/-- The second row holds each place's segment. -/
theorem rowSeg_eq : rowSeg (F := F) (lrow l) (lcol l) = Counting.row fun p => w (cnt l (p.val + 1) - 1) := by
  unfold rowSeg k0_pay21 lanes
  dsimp only
  rw [val11, val13, shapeCast_id, bcast_col, bcast_col, iota_1, cmpi_mat]
  simp only [cmp_sle (pos31 l _) (fin31 _)]
  rw [andi_mat (fun n _ => first l n) (fun n j => pos l n ≤ j.val)]
  refine (congrArg (fun v => subi v (broadcast S1x128 1#32)) (count0 (fun n j => first l n ∧ pos l n ≤ j.val) _ _ _ _)).trans (row_congr (f := fun p => w (Finset.univ.filter fun n => first l n ∧ pos l n ≤ p.val).card - w 1) fun p => ?_)
  have h := rk_pos l (ord l p)
  rw [pos_ord] at h
  rw [w_sub h, ← rk_ord l p]
  unfold rk; rw [pos_ord]

/-- The first row holds each segment's class. -/
theorem rowCls_eq : rowCls (F := F) (lrow l) (lcol l) = Counting.row fun s => w (cls l s.val).val := by
  have hrk : ∀ n, rk l n < 2 ^ 31 := fun n => by
    have := card_lt fun m => first l m ∧ pos l m ≤ pos l n
    unfold rk; omega
  have h74 : subi (shapeCast S128x1 (multiReductionI .add [1] S128 (extui 32 (mat fun n j : Fin 128 => bit (first l j ∧ pos l j ≤ pos l n)) natLt_1_32) 0#32 reduces_S128x128_S128 rfl) shapeCasts_S128_S128x1) (broadcast S128x1 1#32)
      = Counting.col fun n => w (rk l n) := by
    refine (congrArg (fun v => subi v (broadcast S128x1 1#32)) (count1 (fun n j => first l j ∧ pos l j ≤ pos l n) _ _ _ _)).trans (funext fun z => ?_)
    show w _ - w 1 = w _
    rw [w_sub (rk_pos l (z 0))]
    rfl
  unfold rowCls k0_pay20 lanes k0_pay8
  dsimp only
  rw [val11, val12, val13, val14, shapeCast_id, shapeCast_id, shapeCast_id, bcast_col, bcast_row, bcast_row, bcast_col, bcast_col, iota_1, cmpi_mat]
  simp only [cmp_sle (pos31 l _) (pos31 l _)]
  rw [andi_mat (fun _ j => first l j) (fun n j => pos l j ≤ pos l n)]
  refine (congrArg (fun v => shapeCast S1x128 (multiReductionI .add [0] S128 (select (andi (mat fun n _ => bit (first l n)) (cmpi .eq (broadcastTo S128x128 v broadcasts_S128x1_S128x128) (mat fun _ j => w j.val))) (mat fun n _ => w (l n).val) (broadcast S128x128 0#32)) 0#32 reduces_S128x128_S128_2 rfl) shapeCasts_S128_S1x128) h74).trans ?_
  rw [bcast_col, cmpi_mat]
  simp only [cmp_eq (hrk _) (fin31 _)]
  rw [andi_mat (fun n _ => first l n) (fun n j => rk l n = j.val)]
  refine (sum_axis0 (fun n j => Scalar.select (bit (first l n ∧ rk l n = j.val)) (w (l n).val) (w 0)) _ _ _).trans (row_congr fun s => ?_)
  simp only [bit_sel]
  rw [w_sum, sum_cls]

/-- The table of the labels. -/
def tab : Tab where
  fst k := if h : k < 128 then decide (first l (ord l ⟨k, h⟩)) else false
  cls s := Sorting.cls l s
  ord k := if h : k < 128 then ord l ⟨k, h⟩ else 0
  fst0 := by rw [dif_pos (by decide)]; exact decide_eq_true (first_zero l)

theorem tab_w : ∀ k, k ≤ 128 → (tab l).w k = cnt l k
  | 0, _ => (Tab.w_zero _).trans (cnt_zero l).symm
  | k + 1, h => by
    rw [Tab.w_succ, tab_w k (by omega)]
    refine Eq.trans ?_ (cnt_succ l ⟨k, by omega⟩).symm
    congr 1
    show (if (if h : k < 128 then decide (first l (ord l ⟨k, h⟩)) else false) = true then 1 else 0) = _
    rw [dif_pos (by omega : k < 128)]
    exact if_congr decide_eq_true_iff rfl rfl

theorem tab_ord (p : Fin 128) : (tab l).ord p.val = ord l p := dif_pos p.isLt

theorem tab_seg (p : Fin 128) : (tab l).seg p.val = cnt l (p.val + 1) - 1 := by
  show (tab l).w (p.val + 1) - 1 = _
  rw [tab_w l _ p.isLt]

/-- The row at a place has the label its segment's class says. -/
theorem tab_cls (p : Fin 128) : (tab l).cls ((tab l).seg p.val) = l ((tab l).ord p.val) := by
  rw [tab_seg, tab_ord]; exact cls_seg l p

/-- The kernel's rows tabulate the labels' order. -/
theorem tab_ok : Tabulates (F := F) (lrow l) (lcol l) (tab l) where
  cls i h _ := by rw [rowCls_eq]; rfl
  seg i h := by rw [rowSeg_eq]; exact congrArg wd (tab_seg l ⟨i, h⟩).symm
  fst i h := by
    rw [rowFst_eq]
    show w (if first l (ord l ⟨i, h⟩) then 1 else 0) = if (if h : i < 128 then decide (first l (ord l ⟨i, h⟩)) else false) = true then 1#32 else 0#32
    rw [dif_pos h]
    by_cases hf : first l (ord l ⟨i, h⟩)
    · rw [if_pos hf, if_pos (decide_eq_true hf)]; rfl
    · rw [if_neg hf, if_neg (by simpa using hf)]; rfl
  nseg := by rw [rowNum_eq]; exact congrArg wd (tab_w l 128 le_rfl).symm
  ord i h := by rw [rowOrd_eq]; exact congrArg (fun o : Fin 128 => wd o.val) (tab_ord l ⟨i, h⟩).symm

end Readings

end Cert.KernelIdeal.Hand

end
-- ==== Proof.KernelIdeal.Final.lean ====
/-
  The run, of labels in range: it ends with the loss of the rows taken in the order of their labels, its arguments as
  they were and every semaphore at zero.
-/
module

public import proofs.«01_k».proof.Proof.KernelIdeal.Sorting
public import proofs.«01_k».proof.Proof.Labels

@[expose] public section

noncomputable section

namespace Cert.KernelIdeal.Hand

open Cert.KernelIdeal Cert.KernelIdeal.Gen
open Idealize.ShloMosaic Idealize.ShloMosaic.TcCoe Idealize.ShloMosaic.Tactic
open Idealize.SL.Sem
open Labels

variable {F : FTy → Type} [FloatOps F] [Named F]
variable (m : (ℓ : Loc nD τ sig) → Buf (Elt F) ℓ) (ρ : Dev nD → PrngReg)

/-- A device's labels, and the table of their order. -/
def labs (c : Dev nD) : Fin 128 → Fin 100 := classes (m (((c.tc : Thread nD τ)).loc main_arg3) : Vec F S128 .i32)
def tabs (c : Dev nD) : Tab := tab (labs m c)

/-- The labels of the memory are in range. -/
def LabelsOk : Prop := ∀ c : Dev nD, InRange (m (((c.tc : Thread nD τ)).loc main_arg3) : Vec F S128 .i32)

theorem tabs_ok (h : LabelsOk m) (c : Dev nD) : Tabulates (inLabR m c) (inLabC m c) (tabs m c) := by
  rw [inLabR_eq, inLabC_eq]
  have e1 : shapeCast S1x128 (m (((c.tc : Thread nD τ)).loc main_arg3) : Vec F S128 .i32) shapeCasts_S128_S1x128 = lrow (F := F) (labs m c) := row_classes (h c) _
  have e2 : shapeCast S128x1 (m (((c.tc : Thread nD τ)).loc main_arg3) : Vec F S128 .i32) shapeCasts_S128_S128x1 = lcol (F := F) (labs m c) := col_classes (h c) _
  rw [e1, e2]
  exact tab_ok _

/-- The run with labels in range. -/
theorem run_final (h : LabelsOk m) :
    θ_run defs (onTc (τ := τ) (main (F := F))) ⟨m, fun _ => 0, ρ⟩ (fun r => (∀ c : Dev nD,
      r.2.mem ((c.tc : Thread nD τ).loc main_v3) = lossOut m (tabs m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  run_value m ρ (tabs m) (tabs_ok m h)

end Cert.KernelIdeal.Hand

end
-- ==== Proof.Loss.lean ====
/-
  The loss over the reals, and the two facts about maxima and logarithms of sums that both programs' rows come down to:
  a maximum of finitely many reals is a real, and subtracting any real before the exponentials does not change the
  logarithm of their sum.
-/
module

public import Idealize.ShloMosaic.PureOps.Ideal.Laws

@[expose] public section

noncomputable section

namespace Loss

open Idealize.ShloMosaic

/-! ## The loss -/

section Defs

variable (q k : Fin 128 → Fin 128 → ℝ) (Q : Fin 100 → Fin 128 → Fin 4096 → ℝ)

/-- The reciprocal of the temperature, 0.07 read in single precision. -/
def scale : ℝ := 134217728 / 9395241

/-- Row `n`'s logit against its key. -/
def pos (n : Fin 128) : ℝ := (∑ d, q n d * k n d) * scale
/-- Row `n`'s logit against entry `j` of class `c`'s queue. -/
def neg (c : Fin 100) (n : Fin 128) (j : Fin 4096) : ℝ := (∑ d, q n d * Q c d j) * scale
/-- Row `n`'s cross entropy, the key being the right answer. -/
def row (c : Fin 100) (n : Fin 128) : ℝ := Real.log (∑ j, Real.exp (neg q Q c n j) + Real.exp (pos q k n)) - pos q k n
/-- The mean over the rows, each against its own class's queue. -/
def loss (l : Fin 128 → Fin 100) : ℝ := (∑ n, row q k Q (l n) n) * (1 / 128)

end Defs

/-! ## Sums, maxima and logarithms -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, as an extended real. -/
theorem coe_max (a b : ℝ) : max (a : EReal) (b : EReal) = ((max a b : ℝ) : EReal) :=
  (EReal.coe_strictMono.monotone.map_max).symm

/-- The maximum of finitely many reals, one at least, is a real. -/
theorem fold_max {ι : Type} (f : ι → ℝ) (s : Finset ι) (hs : s.Nonempty) : ∃ M : ℝ, s.fold max (⊥ : EReal) (fun i => (f i : EReal)) = M := by
  induction hs using Finset.Nonempty.cons_induction with
  | singleton a => exact ⟨f a, by rw [Finset.fold_singleton, max_bot_right]⟩
  | cons a s ha _ ih =>
    obtain ⟨M, hM⟩ := ih
    exact ⟨max (f a) M, by rw [Finset.fold_cons, hM, coe_max]⟩

/-- Shifting the exponents. -/
theorem log_shift {ι : Type} (s : Finset ι) (hs : s.Nonempty) (x : ι → ℝ) (M : ℝ) :
    Real.log (∑ i ∈ s, Real.exp (x i - M)) = Real.log (∑ i ∈ s, Real.exp (x i)) - M := by
  have hpos : 0 < ∑ i ∈ s, Real.exp (x i) := Finset.sum_pos (fun i _ => Real.exp_pos _) hs
  have e : ∑ i ∈ s, Real.exp (x i - M) = (∑ i ∈ s, Real.exp (x i)) * Real.exp (-M) := by
    rw [Finset.sum_mul]
    exact Finset.sum_congr rfl fun i _ => by rw [← Real.exp_add, sub_eq_add_neg]
  rw [e, Real.log_mul hpos.ne' (Real.exp_pos _).ne', Real.log_exp, sub_eq_add_neg]

/-- The logarithm of a positive real. -/
theorem log_pos {r : ℝ} (h : 0 < r) : Ideal.log (r : EReal) = (Real.log r : EReal) := by
  rw [Ideal.log_coe, if_neg (not_le.mpr h)]

/-- A sum of shifted exponentials is that of the reals. -/
theorem sum_exp {ι : Type} (s : Finset ι) (x : ι → ℝ) (M : ℝ) :
    ∑ i ∈ s, Ideal.exp ((x i : EReal) - (M : EReal)) = ((∑ i ∈ s, Real.exp (x i - M) : ℝ) : EReal) := by
  rw [coe_sum]
  exact Finset.sum_congr rfl fun i _ => by rw [← EReal.coe_sub, Ideal.exp_coe]

/-- A row of the kernel: the shift is put back after the logarithm, and the right answer's logit taken off. -/
theorem row_split (a : Fin 4096 → ℝ) (b M : ℝ) :
    (M : EReal) + Ideal.log (∑ j, Ideal.exp ((a j : EReal) - (M : EReal)) + Ideal.exp ((b : EReal) - (M : EReal))) - (b : EReal)
      = ((Real.log (∑ j, Real.exp (a j) + Real.exp b) - b : ℝ) : EReal) := by
  have hs := log_shift (Finset.univ : Finset (Option (Fin 4096))) ⟨none, Finset.mem_univ _⟩ (fun o => o.elim b a) M
  simp only [Fintype.sum_option, Option.elim_none, Option.elim_some] at hs
  have hpos : 0 < ∑ j, Real.exp (a j - M) + Real.exp (b - M) :=
    add_pos_of_nonneg_of_pos (Finset.sum_nonneg fun j _ => (Real.exp_pos _).le) (Real.exp_pos _)
  rw [sum_exp, ← EReal.coe_sub, Ideal.exp_coe, ← EReal.coe_add, log_pos hpos, ← EReal.coe_add, ← EReal.coe_sub]
  rw [add_comm (∑ j, Real.exp (a j - M)), hs, add_comm (Real.exp b)]
  congr 1
  ring

/-- A row of the reference: the shift is taken off every logit first, and the logarithm taken off the right answer's. -/
theorem row_joint (x : Fin 4097 → ℝ) (M : ℝ) :
    (x 0 : EReal) - (M : EReal) - Ideal.log (0 + ∑ i, Ideal.exp ((x i : EReal) - (M : EReal)))
      = ((-(Real.log (∑ j : Fin 4096, Real.exp (x j.succ) + Real.exp (x 0)) - x 0) : ℝ) : EReal) := by
  have hs := log_shift (Finset.univ : Finset (Fin 4097)) ⟨0, Finset.mem_univ _⟩ x M
  have hpos : 0 < ∑ i, Real.exp (x i - M) := Finset.sum_pos (fun i _ => Real.exp_pos _) ⟨0, Finset.mem_univ _⟩
  rw [zero_add, sum_exp, log_pos hpos, ← EReal.coe_sub, ← EReal.coe_sub, hs, Fin.sum_univ_succ, add_comm (Real.exp (x 0))]
  congr 1
  ring

end Loss

end
-- ==== Proof.KernelValue.lean ====
/-
  What the kernel's ideal form computes: of real features and a real queue, the mean over the rows of the cross entropy
  against the row's own class's queue, summed in the order of the labels.
-/
module

public import proofs.«01_k».proof.Proof.KernelIdeal.Final
public import proofs.«01_k».proof.Proof.Loss
public import Idealize.ShloMosaic.Lib.MatmulPlain
public import Idealize.ShloMosaic.Lib.Pointwise

@[expose] public section

set_option maxRecDepth 16384

noncomputable section

namespace Cert.KernelIdeal.Rows

open Cert.KernelIdeal Cert.KernelIdeal.Gen
open Idealize.ShloMosaic Idealize.ShloMosaic.TcCoe

/-! ## The pieces of a row -/

/-- The named constant is the reciprocal of the temperature. -/
theorem pay4_val (v : Vec Ideal S1x128 .f32) (z : S1x128.Idx) : k0_pay4 (F := Ideal) v z = (v z : EReal) * (Loss.scale : EReal) := by
  unfold k0_pay4
  exact congrArg (fun t : EReal => (v z : EReal) * t) (IdealRules.named_const.ideal_named_scalar (φ := .f32) κ "inv_temp" 0x41649249#32 ((134217728 / 9395241 : ℝ) : EReal) rfl)

/-- A row's products against a slab of the queue. -/
theorem pay5_val (v : Vec Ideal S1x128 .f32) (S : Vec Ideal S1x128x4096 .f32) (a : Fin 128 → ℝ) (b : Fin 128 → Fin 4096 → ℝ)
    (hv : ∀ d, v (ix2 0 d) = (a d : EReal)) (hS : ∀ d j, S (ix3 0 d j) = (b d j : EReal)) (j : Fin 4096) :
    k0_pay5 (F := Ideal) v S (ix2 0 j) = (((∑ d, a d * b d j) * Loss.scale : ℝ) : EReal) := by
  unfold k0_pay5
  rw [shapeCast_id]
  have e := Ideal.matmul_plain_apply (M := 1) (K := 128) (N := 4096) (φ₁ := .f32) (φ₂ := .f32) none (k0_pay4 (F := Ideal) v) (shapeCast S128x4096 S shapeCasts_S1x128x4096_S128x4096)
    (constant (F := Ideal) S1x4096 .f32 0x00000000#32) 0 j
  refine Eq.trans ?_ (e.trans ?_)
  · rfl
  have e0 : (constant (F := Ideal) S1x4096 .f32 0x00000000#32 (ix2 0 j) : EReal) = 0 := by
    simp only [pointwise]
  refine (congrArg (· + _) e0).trans ?_
  rw [zero_add, Finset.sum_mul, Loss.coe_sum]
  refine Finset.sum_congr rfl fun d _ => ?_
  have eS : shapeCast S128x4096 S shapeCasts_S1x128x4096_S128x4096 (ix2 d j) = S (ix3 0 d j) := by
    simp only [pointwise]
  refine (congrArg₂ (· * ·) ((pay4_val v (ix2 0 d)).trans (congrArg (· * (Loss.scale : EReal)) (hv d))) (eS.trans (hS d j))).trans ?_
  rw [← EReal.coe_mul, ← EReal.coe_mul]
  congr 1
  ring

/-- A row's products of query and key. -/
theorem pay6_val (v u : Vec Ideal S1x128 .f32) (a b : Fin 128 → ℝ) (hv : ∀ d, v (ix2 0 d) = (a d : EReal)) (hu : ∀ d, u (ix2 0 d) = (b d : EReal)) (d : Fin 128) :
    k0_pay1 (F := Ideal) (k0_pay6 (F := Ideal) v u) (ix2 0 d) = ((a d * b d * Loss.scale : ℝ) : EReal) := by
  unfold k0_pay1 k0_pay6
  dsimp only
  rw [shapeCast_id]
  show (k0_pay4 (F := Ideal) v (ix2 0 d) : EReal) * (u (ix2 0 d) : EReal) = _
  rw [pay4_val, hv, hu, ← EReal.coe_mul, ← EReal.coe_mul]
  congr 1
  ring

/-- A row of 32: the largest logit is taken off, and put back after the logarithm. -/
theorem pay2_val (v : Vec Ideal S32x4096 .f32) (u : Vec Ideal S32x128 .f32) (r : Fin 32) (a : Fin 4096 → ℝ) (b : Fin 128 → ℝ)
    (hv : ∀ j, v (ix2 r j) = (a j : EReal)) (hu : ∀ d, u (ix2 r d) = (b d : EReal)) :
    k0_pay2 (F := Ideal) v u (ix2 r 0) = ((Real.log (∑ j, Real.exp (a j) + Real.exp (∑ d, b d)) - ∑ d, b d : ℝ) : EReal) := by
  obtain ⟨M, hM⟩ := Loss.fold_max a Finset.univ Finset.univ_nonempty
  unfold k0_pay2
  dsimp only
  rw [shapeCast_id]
  simp only [pointwise]
  have e0 : Ideal.ofBits FTy.f32 4286578688#32 = ⊥ := by simp [Ideal.ofBits, Ideal.ieee]
  change max (Finset.fold max (Ideal.ofBits FTy.f32 4286578688#32) (fun k => v (ix2 r k)) Finset.univ) (∑ k, u (ix2 r k))
      + Ideal.log (∑ k, Ideal.exp (v (ix2 r k) - max (Finset.fold max (Ideal.ofBits FTy.f32 4286578688#32) (fun k => v (ix2 r k)) Finset.univ) (∑ k, u (ix2 r k)))
        + Ideal.exp (∑ k, u (ix2 r k) - max (Finset.fold max (Ideal.ofBits FTy.f32 4286578688#32) (fun k => v (ix2 r k)) Finset.univ) (∑ k, u (ix2 r k))))
      - ∑ k, u (ix2 r k) = _
  simp only [hv, hu, e0, hM, ← Loss.coe_sum, Loss.coe_max]
  exact Loss.row_split a _ _

/-- The mean. -/
theorem pay3_val (v : Vec Ideal S128x1 .f32) (x : Fin 128 → ℝ) (hv : ∀ n, v (ix2 n 0) = (x n : EReal)) (z : S1x1.Idx) :
    k0_pay3 (F := Ideal) v z = (((∑ n, x n) * (1 / 128) : ℝ) : EReal) := by
  unfold k0_pay3
  dsimp only
  simp only [pointwise]
  have e : Ideal.ofBits FTy.f32 1006632960#32 = ((1 / 128 : ℝ) : EReal) := by
    simp [Ideal.ofBits, Ideal.ieee]
    rw [← EReal.coe_mul]
    congr 1
    norm_num
  rw [e, EReal.coe_mul, Loss.coe_sum]
  refine congrArg (fun t : EReal => t * ((1 / 128 : ℝ) : EReal)) (Finset.sum_congr rfl fun n _ => ?_)
  rw [Fin.sum_univ_one]
  exact hv n

end Cert.KernelIdeal.Rows

namespace Cert.KernelIdeal.Hand

open Cert.KernelIdeal Cert.KernelIdeal.Gen
open Idealize.ShloMosaic Idealize.ShloMosaic.TcCoe
open Sorting

/-! ## The whole -/

section Whole

variable (m : (ℓ : Loc nD τ sig) → Buf (Elt Ideal) ℓ) (c : Dev nD)
variable (q k : Fin 128 → Fin 128 → ℝ) (Q : Fin 100 → Fin 128 → Fin 4096 → ℝ)

/-- The memory's features and queue are these reals. -/
structure Holds : Prop where
  q : ∀ n d, (m ((c : Thread nD τ).loc main_arg0) : Vec Ideal S128x128 .f32) (Idealize.ShloMosaic.ix2 n d) = (q n d : EReal)
  k : ∀ n d, (m ((c : Thread nD τ).loc main_arg1) : Vec Ideal S128x128 .f32) (Idealize.ShloMosaic.ix2 n d) = (k n d : EReal)
  Q : ∀ l d j, (m ((c : Thread nD τ).loc main_arg4) : Vec Ideal S100x128x4096 .f32) (Idealize.ShloMosaic.ix3 l d j) = (Q l d j : EReal)

variable {m c q k Q}

theorem rowQ_val (h : Holds m c q k Q) (o d : Fin 128) :
    rowOf c (Memref.whole cc0_stg2_0) (inQ m c) o (Idealize.ShloMosaic.ix2 0 d) = (q o d : EReal) := by
  refine Eq.trans ?_ (h.q o d)
  rw [inQ_eq]
  refine congrArg (m ((c : Thread nD τ).loc main_arg0)) (funext fun a => ?_)
  fin_cases a <;> refine Fin.ext ?_
  · show o.val + 0 * 1 = o.val; omega
  · show 0 + 1 * d.val = d.val; omega

theorem rowK_val (h : Holds m c q k Q) (o d : Fin 128) :
    rowOf c (Memref.whole cc0_stg3_0) (inK m c) o (Idealize.ShloMosaic.ix2 0 d) = (k o d : EReal) := by
  refine Eq.trans ?_ (h.k o d)
  rw [inK_eq]
  refine congrArg (m ((c : Thread nD τ).loc main_arg1)) (funext fun a => ?_)
  fin_cases a <;> refine Fin.ext ?_
  · show o.val + 0 * 1 = o.val; omega
  · show 0 + 1 * d.val = d.val; omega

theorem slab_val (h : Holds m c q k Q) (l : Fin 100) (d : Fin 128) (j : Fin 4096) :
    slab c (V m c main_arg4) l (Idealize.ShloMosaic.ix3 0 d j) = (Q l d j : EReal) := by
  refine Eq.trans ?_ (h.Q l d j)
  rw [V_main_arg4]
  refine congrArg (m ((c : Thread nD τ).loc main_arg4)) (funext fun a => ?_)
  fin_cases a <;> refine Fin.ext ?_
  · show l.val + 0 * 1 = l.val; omega
  · show 0 + 1 * d.val = d.val; omega
  · show 0 + 1 * j.val = j.val; omega

/-- The place `p` of the sorted order holds the cross entropy of the row that stands there. -/
theorem con_val (h : Holds m c q k Q) (p : Fin 128) :
    conAll c (V m c main_arg4) (tabs m c) (Memref.whole cc0_stg2_0) (Memref.whole cc0_stg3_0) (inQ m c) (inK m c) (Idealize.ShloMosaic.ix2 p 0)
      = (Loss.row q k Q (labs m c (ord (labs m c) p)) (ord (labs m c) p) : EReal) := by
  have hp : 32 * (p.val / 32) + p.val % 32 = p.val := Nat.div_add_mod _ _
  have ho : (tabs m c).ord (32 * (p.val / 32) + p.val % 32) = ord (labs m c) p := by rw [hp]; exact tab_ord _ p
  have hc : (tabs m c).cls ((tabs m c).seg (32 * (p.val / 32) + p.val % 32)) = labs m c (ord (labs m c) p) := by
    rw [hp]; exact (tab_cls _ p).trans (congrArg _ (tab_ord _ p))
  refine (Rows.pay2_val _ _ ⟨p.val % 32, _⟩ (Loss.neg q Q (labs m c (ord (labs m c) p)) (ord (labs m c) p))
    (fun d => q (ord (labs m c) p) d * k (ord (labs m c) p) d * Loss.scale) (fun j => ?_) fun d => ?_).trans ?_
  · refine Rows.pay5_val _ _ (q (ord (labs m c) p)) (Q (labs m c (ord (labs m c) p))) (fun d => ?_) (fun d j => ?_) j
    · exact (congrArg (fun o => rowOf c (Memref.whole cc0_stg2_0) (inQ m c) o _) ho).trans (rowQ_val h _ d)
    · exact (congrArg (fun l => slab c (V m c main_arg4) l _) hc).trans (slab_val h _ d j)
  · refine Rows.pay6_val _ _ (q (ord (labs m c) p)) (k (ord (labs m c) p)) (fun d => ?_) (fun d => ?_) d
    · exact (congrArg (fun o => rowOf c (Memref.whole cc0_stg2_0) (inQ m c) o _) ho).trans (rowQ_val h _ d)
    · exact (congrArg (fun o => rowOf c (Memref.whole cc0_stg3_0) (inK m c) o _) ho).trans (rowK_val h _ d)
  · rw [← Finset.sum_mul]
    rfl

/-- The kernel's loss. -/
theorem lossOut_val (h : Holds m c q k Q) : lossOut m (tabs m) c = fun _ => (Loss.loss q k Q (labs m c) : EReal) := by
  funext z
  refine (Rows.pay3_val _ _ (con_val h) (Shape.reshapeEquiv shapeCasts_S1x1_S_ z)).trans ?_
  refine congrArg (fun t : ℝ => ((t * (1 / 128) : ℝ) : EReal)) ?_
  exact (ord_bijective (labs m c)).sum_comp fun n => Loss.row q k Q (labs m c n) n

end Whole

end Cert.KernelIdeal.Hand

end
-- ==== Proof.OneHot.lean ====
/-
  The reference's one-hot table: a one is set at each row's label, into zeros.
-/
module

public import proofs.«01_k».proof.Proof.Gen.ReferenceIdeal
public import proofs.«01_k».proof.Proof.Labels
public import Idealize.ShloMosaic.Lib.Routing.OpsPair
public import Idealize.ShloMosaic.Lib.Pointwise

@[expose] public section

set_option maxRecDepth 16384

noncomputable section

namespace Cert.ReferenceIdeal.OneHot

open Cert.ReferenceIdeal Cert.ReferenceIdeal.Gen
open Idealize.ShloMosaic Idealize.ShloMosaic.TcCoe
open Labels

/-- A fold that sets one value wherever a condition holds. -/
theorem foldl_set {α ι : Type} (P : ι → Prop) [DecidablePred P] [∀ L : List ι, Decidable (∃ n ∈ L, P n)] (v : α) :
    ∀ (L : List ι) (x : α), L.foldl (fun a n => if P n then v else a) x = if ∃ n ∈ L, P n then v else x
  | [], x => by simp
  | n :: L, x => by
    rw [List.foldl_cons, foldl_set P v L]
    by_cases h : ∃ k ∈ L, P k
    · rw [if_pos h, if_pos (let ⟨k, hk, hp⟩ := h; ⟨k, List.mem_cons_of_mem _ hk, hp⟩)]
    · rw [if_neg h]
      by_cases hn : P n
      · rw [if_pos hn, if_pos ⟨n, List.mem_cons_self, hn⟩]
      · rw [if_neg hn, if_neg]
        rintro ⟨k, hk, hp⟩
        rcases List.mem_cons.1 hk with rfl | hk
        exacts [hn hp, h ⟨k, hk, hp⟩]

/-- Row `n`'s update lands at the row and the column that its two words name. -/
theorem lands (idx : IVec S128x2 32) (n r : Fin 128) (c : Fin 100) :
    scatter_S128x100_S128x2_S128_n_01_01_1.resultIdx? (ix1 n) idx = some (ix2 r c)
      ↔ (idx (ix2 n 0)).toInt = r.val ∧ (idx (ix2 n 1)).toInt = c.val := by
  rw [Routing.resultIdx?_eq_some]
  have s0 : scatter_S128x100_S128x2_S128_n_01_01_1.start (ix1 n) idx 0 = (idx (ix2 n 0)).toInt := by
    unfold ScatterDims.start
    rw [dif_pos (by decide)]
    exact congrArg (fun z => (idx z).toInt) (funext fun b => Fin.ext (by fin_cases b <;> rfl))
  have s1 : scatter_S128x100_S128x2_S128_n_01_01_1.start (ix1 n) idx 1 = (idx (ix2 n 1)).toInt := by
    unfold ScatterDims.start
    rw [dif_pos (by decide)]
    exact congrArg (fun z => (idx z).toInt) (funext fun b => Fin.ext (by fin_cases b <;> rfl))
  have w0 : scatter_S128x100_S128x2_S128_n_01_01_1.window (ix1 n) 0 = 0 := rfl
  have w1 : scatter_S128x100_S128x2_S128_n_01_01_1.window (ix1 n) 1 = 0 := rfl
  constructor
  · intro h
    have h0 := h 0
    have h1 := h 1
    rw [s0, w0] at h0
    rw [s1, w1] at h1
    exact ⟨by simpa using h0, by simpa using h1⟩
  · rintro ⟨h0, h1⟩ a
    match a with
    | ⟨0, _⟩ => exact (by rw [s0, w0, h0]; simp : scatter_S128x100_S128x2_S128_n_01_01_1.start (ix1 n) idx 0 + (scatter_S128x100_S128x2_S128_n_01_01_1.window (ix1 n) 0 : Int) = r.val)
    | ⟨1, _⟩ => exact (by rw [s1, w1, h1]; simp : scatter_S128x100_S128x2_S128_n_01_01_1.start (ix1 n) idx 1 + (scatter_S128x100_S128x2_S128_n_01_01_1.window (ix1 n) 1 : Int) = c.val)

/-- Two matrices side by side, read in the left one … -/
theorem cat_left {α : Type} {N A B C : ℕ} (x₁ : (⟨2, ![N, A]⟩ : Shape).Idx → α) (x₂ : (⟨2, ![N, B]⟩ : Shape).Idx → α)
    (h : Shape.Concatenates [⟨2, ![N, A]⟩, ⟨2, ![N, B]⟩] ⟨2, ![N, C]⟩ 1) (n : Fin N) (j : Fin A) (j' : Fin C) (e : j'.val = j.val) :
    concatenate ⟨2, ![N, C]⟩ 1 [⟨⟨2, ![N, A]⟩, x₁⟩, ⟨⟨2, ![N, B]⟩, x₂⟩] h (ix2 n j') = x₁ (ix2 n j) := by
  have hlt : j'.val < A := e ▸ j.isLt
  refine (concatenate_pair_apply 1 x₁ x₂ h (ix2 n j')).trans ((dif_pos hlt).trans (congrArg x₁ (funext fun a => ?_)))
  rw [Shape.Idx.norm_def]
  match a with
  | ⟨0, _⟩ => rfl
  | ⟨1, _⟩ => exact Fin.ext e

/-- … and in the right one. -/
theorem cat_right {α : Type} {N A B C : ℕ} (x₁ : (⟨2, ![N, A]⟩ : Shape).Idx → α) (x₂ : (⟨2, ![N, B]⟩ : Shape).Idx → α)
    (h : Shape.Concatenates [⟨2, ![N, A]⟩, ⟨2, ![N, B]⟩] ⟨2, ![N, C]⟩ 1) (n : Fin N) (j : Fin B) (j' : Fin C) (e : j'.val = A + j.val) :
    concatenate ⟨2, ![N, C]⟩ 1 [⟨⟨2, ![N, A]⟩, x₁⟩, ⟨⟨2, ![N, B]⟩, x₂⟩] h (ix2 n j') = x₂ (ix2 n j) := by
  have hlt : ¬ j'.val < A := by omega
  refine (concatenate_pair_apply 1 x₁ x₂ h (ix2 n j')).trans ((dif_neg hlt).trans (congrArg x₂ (funext fun a => ?_)))
  rw [Shape.Idx.norm_def]
  match a with
  | ⟨0, _⟩ => rfl
  | ⟨1, _⟩ => exact Fin.ext (show j'.val - A = j.val by omega)

/-- A word below 2³¹ reads signed as it reads unsigned, and wrapping leaves it alone. -/
theorem wrapped {x a : BitVec 32} (h : x.toNat < 2 ^ 31) : (Scalar.select (IntOp.cmpi .slt x 0#32) a x).toInt = x.toNat := by
  rw [Routing.wrap_of_lt x a h, BitVec.toInt_eq_toNat_of_lt (by omega)]

/-- A column of words, those below zero wrapped by `b`. -/
def wrapCol (y : IVec S128 32) (b : BitVec 32) : IVec S128x1 32 :=
  broadcastInDim S128x1 ![0] bcast_S128_S128x1_0 (select (cmpi .slt y (broadcastInDim S128 ![] bcast_S_S128 (constantI S_ 32 0#32)))
    (addi y (broadcastInDim S128 ![] bcast_S_S128 (constantI S_ 32 b))) y)

theorem wrapCol_apply (y : IVec S128 32) (b : BitVec 32) (n : Fin 128) (h : (y (ix1 n)).toNat < 2 ^ 31) :
    (wrapCol y b (ix2 n 0)).toInt = (y (ix1 n)).toNat := by
  refine Eq.trans (congrArg BitVec.toInt ?_) (wrapped (x := y (ix1 n)) (a := IntOp.addi (y (ix1 n)) b) h)
  unfold wrapCol
  simp only [pointwise]
  rfl

/-- The row numbers and the labels, side by side, as the reference indexes with them. -/
def pairs (x : IVec S128 32) : IVec S128x2 32 :=
  concatenate S128x2 1 [⟨S128x1, wrapCol (iotaInDim S128 32 0) 128#32⟩, ⟨S128x1, wrapCol x 100#32⟩] concatenates_S128x1_S128x1_S128x2_d1

theorem pairs_row (x : IVec S128 32) (n : Fin 128) : (pairs x (ix2 n 0)).toInt = n.val := by
  have hn : ((iotaInDim S128 32 0 : IVec S128 32) (ix1 n)).toNat = n.val := by
    simp only [pointwise]
    rw [BitVec.toNat_ofNat]; exact Nat.mod_eq_of_lt (by have := n.isLt; omega)
  refine (congrArg BitVec.toInt (cat_left (wrapCol (iotaInDim S128 32 0) 128#32) (wrapCol x 100#32) concatenates_S128x1_S128x1_S128x2_d1 n 0 0 rfl)).trans ?_
  rw [wrapCol_apply _ _ _ (by rw [hn]; have := n.isLt; omega), hn]

theorem pairs_label {x : IVec S128 32} (hx : InRange x) (n : Fin 128) : (pairs x (ix2 n 1)).toInt = (classes x n).val := by
  refine (congrArg BitVec.toInt (cat_right (wrapCol (iotaInDim S128 32 0) 128#32) (wrapCol x 100#32) concatenates_S128x1_S128x1_S128x2_d1 n 0 1 rfl)).trans ?_
  rw [wrapCol_apply _ _ _ (by have := hx (ix1 n); omega), show (classes x n).val = (x (ix1 n)).toNat % 100 from rfl, Nat.mod_eq_of_lt (hx _)]

/-- The one-hot table. -/
theorem oneHot {x : IVec S128 32} (hx : InRange x) (z0 : S128x100.Idx → EReal) (u1 : S128.Idx → EReal) (h0 : ∀ z, z0 z = 0) (h1 : ∀ z, u1 z = 1) (n : Fin 128) (c : Fin 100) :
    Host.scatter scatter_S128x100_S128x2_S128_n_01_01_1 (fun _ b => b) z0 (pairs x) u1 (ix2 n c) = if c = classes x n then (1 : EReal) else 0 := by
  classical
  rw [Routing.scatter_at, h0]
  simp only [h1]
  have hL : ∀ k, k ∈ List.finRange S128.numel := List.mem_finRange
  generalize List.finRange S128.numel = L at hL ⊢
  rw [foldl_set (fun k => scatter_S128x100_S128x2_S128_n_01_01_1.resultIdx? (S128.rowMajor.symm k) (pairs x) = some (ix2 n c)) (1 : EReal) L 0]
  refine if_congr ?_ rfl rfl
  have hi : ∀ z : S128.Idx, ∃ y : Fin 128, z = ix1 y := fun z => ⟨z 0, funext fun a => by fin_cases a; rfl⟩
  constructor
  · rintro ⟨k, -, hk⟩
    generalize S128.rowMajor.symm k = z at hk
    obtain ⟨y, rfl⟩ := hi z
    rw [lands, pairs_row, pairs_label hx] at hk
    have e0 : y = n := Fin.ext (by exact_mod_cast hk.1)
    rw [e0] at hk
    exact (Fin.ext (by exact_mod_cast hk.2)).symm
  · rintro rfl
    refine ⟨S128.rowMajor (ix1 n), hL _, ?_⟩
    rw [Equiv.symm_apply_apply, lands, pairs_row, pairs_label hx]
    exact ⟨rfl, rfl⟩

end Cert.ReferenceIdeal.OneHot

end
-- ==== Proof.RefValue.lean ====
/-
  What the reference computes: of real features and a real queue, the same mean of the rows' cross entropies.
-/
module

public import proofs.«01_k».proof.Proof.Gen.ReferenceIdeal.Run
public import proofs.«01_k».proof.Proof.OneHot
public import proofs.«01_k».proof.Proof.Loss

@[expose] public section

set_option maxRecDepth 16384

noncomputable section

namespace Cert.ReferenceIdeal.Rows

open Cert.ReferenceIdeal Cert.ReferenceIdeal.Gen
open Idealize.ShloMosaic Idealize.ShloMosaic.TcCoe
open Labels OneHot

/-! ## The logits -/

section Logits

variable (q k : FVec Ideal S128x128 .f32) (x : IVec S128 32) (Q : FVec Ideal S100x128x4096 .f32)

/-- The rows' products with their keys. -/
def posCol : FVec Ideal S128x1 .f32 := broadcastInDim S128x1 ![0] bcast_S128_S128x1_0 (Host.dotGeneral dot_S128x128_S128x128_S128_1_1_n_n_0_0 none q k)

/-- The features, each at its row's class, zero at the others. -/
def hot : FVec Ideal S128x100x128 .f32 :=
  mulf (broadcastInDim S128x100x128 ![0, 1, 2] bcast_S128x100x1_S128x100x128_0_1_2 (broadcastInDim S128x100x1 ![0, 1] bcast_S128x100_S128x100x1_0_1
      (Host.scatter scatter_S128x100_S128x2_S128_n_01_01_1 (fun _ b => b) (broadcastInDim S128x100 ![] bcast_S_S128x100 (constant (F := Ideal) S_ .f32 0x00000000#32)) (pairs x)
        (broadcastInDim S128 ![] bcast_S_S128 (constant (F := Ideal) S_ .f32 0x3F800000#32)))))
    (broadcastInDim S128x100x128 ![0, 1, 2] bcast_S128x1x128_S128x100x128_0_1_2 (broadcastInDim S128x1x128 ![0, 2] bcast_S128x128_S128x1x128_0_2 q))

/-- Their products with the queue. -/
def negMat : FVec Ideal S128x4096 .f32 := Host.dotGeneral dot_S128x100x128_S100x128x4096_S128x4096_12_01_0_2_n_n none (hot q x) Q

/-- The logits: both side by side, over the temperature. -/
def logits : FVec Ideal S128x4097 .f32 :=
  Host.divf (concatenate S128x4097 1 [⟨S128x1, posCol q k⟩, ⟨S128x4096, negMat q x Q⟩] concatenates_S128x1_S128x4096_S128x4097_d1)
    (broadcastInDim S128x4097 ![] bcast_S_S128x4097 (constant (F := Ideal) S_ .f32 0x3D8F5C29#32))

end Logits

section LogitValues

variable {q k : FVec Ideal S128x128 .f32} {x : IVec S128 32} {Q : FVec Ideal S100x128x4096 .f32}
variable {qr kr : Fin 128 → Fin 128 → ℝ} {Qr : Fin 100 → Fin 128 → Fin 4096 → ℝ}

theorem posCol_val (hq : ∀ n d, q (ix2 n d) = (qr n d : EReal)) (hk : ∀ n d, k (ix2 n d) = (kr n d : EReal)) (n : Fin 128) :
    posCol q k (ix2 n 0) = ((∑ d, qr n d * kr n d : ℝ) : EReal) := by
  unfold posCol
  simp only [pointwise]
  change 0 + ∑ d, q (ix2 n d) * k (ix2 n d) = _
  simp only [hq, hk, ← EReal.coe_mul]
  rw [zero_add, Loss.coe_sum]

theorem hot_val (hx : InRange x) (hq : ∀ n d, q (ix2 n d) = (qr n d : EReal)) (n : Fin 128) (l : Fin 100) (d : Fin 128) :
    hot q x (ix3 n l d) = (if l = classes x n then (1 : EReal) else 0) * (qr n d : EReal) := by
  unfold hot
  refine Eq.trans ?_ (congrArg₂ (· * ·) (oneHot hx (broadcastInDim S128x100 ![] bcast_S_S128x100 (constant (F := Ideal) S_ .f32 0x00000000#32))
    (broadcastInDim S128 ![] bcast_S_S128 (constant (F := Ideal) S_ .f32 0x3F800000#32)) (fun z => ?_) (fun z => ?_) n l) (hq n d))
  · generalize Host.scatter scatter_S128x100_S128x2_S128_n_01_01_1 (fun _ b => b) (broadcastInDim S128x100 ![] bcast_S_S128x100 (constant (F := Ideal) S_ .f32 0x00000000#32)) (pairs x)
        (broadcastInDim S128 ![] bcast_S_S128 (constant (F := Ideal) S_ .f32 0x3F800000#32)) = H
    simp only [pointwise]
    rfl
  · simp only [pointwise]
  · simp only [pointwise]

theorem negMat_val (hx : InRange x) (hq : ∀ n d, q (ix2 n d) = (qr n d : EReal)) (hQ : ∀ l d j, Q (ix3 l d j) = (Qr l d j : EReal)) (n : Fin 128) (j : Fin 4096) :
    negMat q x Q (ix2 n j) = ((∑ d, qr n d * Qr (classes x n) d j : ℝ) : EReal) := by
  have hh := hot_val hx hq n
  unfold negMat
  generalize hot q x = H at hh ⊢
  simp only [pointwise]
  rw [zero_add, Finset.sum_eq_single (classes x n), Loss.coe_sum]
  · refine Finset.sum_congr rfl fun d _ => ?_
    rw [hh, hQ, if_pos rfl, one_mul, EReal.coe_mul]
  · intro l _ hl
    refine Finset.sum_eq_zero fun d _ => ?_
    rw [hh, if_neg hl, zero_mul, zero_mul]
  · intro hc
    exact absurd (Finset.mem_univ _) hc

/-- The temperature. -/
theorem temp : (Ideal.ofBits .f32 0x3D8F5C29#32 : EReal) = ((9395241 / 134217728 : ℝ) : EReal) := by
  simp [Ideal.ofBits, Ideal.ieee]
  rw [← EReal.coe_mul]
  congr 1
  norm_num

theorem over_temp (r : ℝ) : Ideal.div (r : EReal) (Ideal.ofBits .f32 0x3D8F5C29#32) = ((r * Loss.scale : ℝ) : EReal) := by
  rw [temp, Ideal.div_coe (by norm_num), ← EReal.coe_mul]
  congr 2
  norm_num [Loss.scale]

/-- Row `n`'s logits, the key's first. -/
def row (qr kr : Fin 128 → Fin 128 → ℝ) (Qr : Fin 100 → Fin 128 → Fin 4096 → ℝ) (l : Fin 100) (n : Fin 128) : Fin 4097 → ℝ :=
  Fin.cases (Loss.pos qr kr n) (Loss.neg qr Qr l n)

theorem logits_val (hx : InRange x) (hq : ∀ n d, q (ix2 n d) = (qr n d : EReal)) (hk : ∀ n d, k (ix2 n d) = (kr n d : EReal))
    (hQ : ∀ l d j, Q (ix3 l d j) = (Qr l d j : EReal)) (n : Fin 128) (i : Fin 4097) :
    logits q k x Q (ix2 n i) = (row qr kr Qr (classes x n) n i : EReal) := by
  have e : ∀ r : ℝ, concatenate S128x4097 1 [⟨S128x1, posCol q k⟩, ⟨S128x4096, negMat q x Q⟩] concatenates_S128x1_S128x4096_S128x4097_d1 (ix2 n i) = (r : EReal) →
      logits q k x Q (ix2 n i) = ((r * Loss.scale : ℝ) : EReal) := fun r h => by
    refine Eq.trans ?_ (over_temp r)
    rw [← h]
    rfl
  cases i using Fin.cases with
  | zero => exact e _ ((cat_left (posCol q k) (negMat q x Q) concatenates_S128x1_S128x4096_S128x4097_d1 n 0 0 rfl).trans (posCol_val hq hk n))
  | succ j => exact e _ ((cat_right (posCol q k) (negMat q x Q) concatenates_S128x1_S128x4096_S128x4097_d1 n j j.succ (by rw [Fin.val_succ]; omega)).trans (negMat_val hx hq hQ n j))

end LogitValues

/-! ## The loss of the logits -/

section Out

variable (X : FVec Ideal S128x4097 .f32)

/-- The rows' largest logits, subtracted. -/
def shifted : FVec Ideal S128x4097 .f32 :=
  subf X (broadcastInDim S128x4097 ![0, 1] bcast_S128x1_S128x4097_0_1 (broadcastInDim S128x1 ![0] bcast_S128_S128x1_0
    (maximumf (broadcastInDim S128 ![] bcast_S_S128 (constant (F := Ideal) S_ .f32 0xFF800000#32)) (Host.reduce (FloatOps.maximumf (F := Ideal)) X (constant (F := Ideal) S_ .f32 0xFF800000#32) reducesTo_S128x4097_S128_d1 h_S_))))

/-- The logarithm of the softmax, at the key. -/
def logp : FVec Ideal S128 .f32 :=
  shapeCast S128 (extractStridedSlice S128x1 ![0, 0] (subf (shifted X) (broadcastInDim S128x4097 ![0, 1] bcast_S128x1_S128x4097_0_1
    (Host.log (broadcastInDim S128x1 ![0] bcast_S128_S128x1_0 (Host.reduceAdd (Host.exp (shifted X)) (constant (F := Ideal) S_ .f32 0x00000000#32) reducesTo_S128x4097_S128_d1 h_S_)))))
    slices_S128x4097_S128x1_0_0) shapeCasts_S128x1_S128

/-- Minus the mean. -/
def out : FVec Ideal S_ .f32 :=
  Host.negf (Host.divf (Host.reduceAdd (logp X) (constant (F := Ideal) S_ .f32 0x00000000#32) reducesTo_S128_S_d0 h_S_) (constant (F := Ideal) S_ .f32 0x43000000#32))

theorem shifted_val (n : Fin 128) (r : Fin 4097 → ℝ) (h : ∀ i, X (ix2 n i) = (r i : EReal)) : ∃ M : ℝ, ∀ i, shifted X (ix2 n i) = (r i : EReal) - (M : EReal) := by
  obtain ⟨M, hM⟩ := Loss.fold_max r Finset.univ Finset.univ_nonempty
  refine ⟨M, fun i => ?_⟩
  unfold shifted
  simp only [pointwise]
  change X (ix2 n i) - max (Ideal.ofBits FTy.f32 0xFF800000#32) (Finset.fold max (Ideal.ofBits FTy.f32 0xFF800000#32) (fun k => X (ix2 n k)) Finset.univ) = _
  have e0 : Ideal.ofBits FTy.f32 0xFF800000#32 = ⊥ := by simp [Ideal.ofBits, Ideal.ieee]
  simp only [h]
  rw [e0, hM, max_bot_left]

theorem logp_val (n : Fin 128) (r : Fin 4097 → ℝ) (h : ∀ i, X (ix2 n i) = (r i : EReal)) :
    logp X (ix1 n) = ((-(Real.log (∑ j : Fin 4096, Real.exp (r j.succ) + Real.exp (r 0)) - r 0) : ℝ) : EReal) := by
  obtain ⟨M, hM⟩ := shifted_val X n r h
  refine Eq.trans ?_ (Loss.row_joint r M)
  unfold logp
  generalize shifted X = Y at hM ⊢
  simp only [pointwise]
  have en : ∀ hb, (⟨(![0, 0] : Fin 2 → ℕ) 0 + n.val, hb⟩ : Fin 128) = n := fun hb => Fin.ext (Nat.zero_add _)
  change Y (ix2 (⟨(![0, 0] : Fin 2 → ℕ) 0 + n.val, _⟩ : Fin 128) 0) - Ideal.log (0 + ∑ i, Ideal.exp (Y (ix2 (⟨(![0, 0] : Fin 2 → ℕ) 0 + n.val, _⟩ : Fin 128) i))) = _
  simp only [en, hM]

theorem out_val (r : Fin 128 → ℝ) (h : ∀ n, logp X (ix1 n) = ((-r n : ℝ) : EReal)) (z : S_.Idx) : out X z = (((∑ n, r n) * (1 / 128) : ℝ) : EReal) := by
  unfold out
  generalize logp X = Y at h ⊢
  simp only [pointwise]
  have e : Ideal.ofBits FTy.f32 0x43000000#32 = ((128 : ℝ) : EReal) := by
    simp [Ideal.ofBits, Ideal.ieee]
    rw [← EReal.coe_mul]
    congr 1
    norm_num
  simp only [h]
  rw [zero_add, ← Loss.coe_sum, e, Ideal.div_coe (by norm_num), ← EReal.coe_mul, ← EReal.coe_neg, Finset.sum_neg_distrib]
  congr 1
  ring

end Out

/-! ## The whole -/

/-- The reference's loss. -/
theorem res_val (m : (ℓ : Loc nD τ sig) → Buf (Elt Ideal) ℓ) (c : Dev nD) {qr kr : Fin 128 → Fin 128 → ℝ} {Qr : Fin 100 → Fin 128 → Fin 4096 → ℝ}
    (hx : InRange (m ((c.tc : Thread nD τ).loc main_arg3) : IVec S128 32))
    (hq : ∀ n d, (m ((c.tc : Thread nD τ).loc main_arg0) : FVec Ideal S128x128 .f32) (ix2 n d) = (qr n d : EReal))
    (hk : ∀ n d, (m ((c.tc : Thread nD τ).loc main_arg1) : FVec Ideal S128x128 .f32) (ix2 n d) = (kr n d : EReal))
    (hQ : ∀ l d j, (m ((c.tc : Thread nD τ).loc main_arg4) : FVec Ideal S100x128x4096 .f32) (ix3 l d j) = (Qr l d j : EReal)) :
    Value.res_out0 m c = fun _ => (Loss.loss qr kr Qr (classes (m ((c.tc : Thread nD τ).loc main_arg3) : IVec S128 32)) : EReal) := by
  have e : Value.res_out0 m c = out (logits (m ((c.tc : Thread nD τ).loc main_arg0)) (m ((c.tc : Thread nD τ).loc main_arg1)) (m ((c.tc : Thread nD τ).loc main_arg3)) (m ((c.tc : Thread nD τ).loc main_arg4))) := rfl
  rw [e]
  funext z
  refine out_val _ (fun n => Loss.row qr kr Qr (classes (m ((c.tc : Thread nD τ).loc main_arg3) : IVec S128 32) n) n) (fun n => ?_) z
  exact logp_val _ n (row qr kr Qr (classes (m ((c.tc : Thread nD τ).loc main_arg3) : IVec S128 32) n) n) (fun i => logits_val hx hq hk hQ n i)

end Cert.ReferenceIdeal.Rows

end
-- ==== Proof.Finite.lean ====
/-
  What the finiteness precondition says: the features and the queue are arrays of reals.
-/
module

public import proofs.«01_k».proof.Proof.Labels

@[expose] public section

noncomputable section

namespace Finite

open Idealize.ShloMosaic Labels

/-- An extended real whose absolute value is below infinity is a real. -/
theorem real_of_lt {x : EReal} (h : FloatOps.cmpf (F := Ideal) (φ := .f32) .olt (FloatOps.hostAbsf (F := Ideal) (φ := .f32) x) (FloatOps.ofBits (F := Ideal) .f32 0x7F800000#32) = 1#1) :
    x = (x.toReal : EReal) := by
  have e : (FloatOps.ofBits (F := Ideal) .f32 0x7F800000#32 : EReal) = ⊤ := by
    simp [Ideal.ofBits, Ideal.ieee]
  rw [e] at h
  have h1 : Ideal.cmp .olt (max x (-x)) ⊤ = 1#1 := h
  have h2 : max x (-x) < ⊤ := by
    by_contra hc
    simp [Ideal.cmp, hc] at h1
  rw [max_lt_iff] at h2
  refine (EReal.coe_toReal h2.1.ne fun hb => ?_).symm
  rw [hb] at h2
  exact absurd h2.2 (by simp)

instance : Subsingleton (Shape.Idx ⟨0, ![]⟩) := ⟨fun _ _ => funext fun a => a.elim0⟩

/-- The features and the queue, all real. -/
theorem reals [Cert.Pre_finite_and_in_range.Facts] {q k : FVec Ideal ⟨2, ![128, 128]⟩ .f32} {wt : FVec Ideal ⟨2, ![100, 128]⟩ .f32} {x}
    {Q : FVec Ideal ⟨3, ![100, 128, 4096]⟩ .f32}
    (h : Cert.Pre_finite_and_in_range.fn (F := Ideal) q k wt x Q = fun _ => 1#1) :
    (∀ i, q i = ((q i : EReal).toReal : EReal)) ∧ (∀ i, k i = ((k i : EReal).toReal : EReal)) ∧ ∀ i, Q i = ((Q i : EReal).toReal : EReal) := by
  have h1 := (and_one (congrFun h (ix1 0))).2
  have h2 := and_one h1
  have h3 := and_one h2.1
  exact ⟨fun i => real_of_lt (Host.reduce_andi_all _ _ _ _ _ h3.1 i), fun i => real_of_lt (Host.reduce_andi_all _ _ _ _ _ h3.2 i),
    fun i => real_of_lt (Host.reduce_andi_all _ _ _ _ _ h2.2 i)⟩

end Finite

end
-- ==== Proof.lean ====
/-
  The certificate: the kernel runs and keeps its arguments, its ideal form is a sanctioned idealization, and that form
  computes the reference's loss.
-/
module

public import proofs.«01_k».proof.Defs
public import proofs.«01_k».proof.Proof.Kernel.Final
public import proofs.«01_k».proof.Proof.KernelIdeal.Final
public import proofs.«01_k».proof.Proof.Gen.ReferenceIdeal
public import proofs.«01_k».proof.Proof.Gen.ReferenceIdeal.Run
public import proofs.«01_k».proof.Proof.KernelValue
public import proofs.«01_k».proof.Proof.RefValue
public import proofs.«01_k».proof.Proof.Finite
public import proofs.«01_k».proof.Proof.Gen.Pre_labels_in_range
public import proofs.«01_k».proof.Proof.Gen.Pre_finite_and_in_range

@[expose] public section

noncomputable section

namespace Cert.Proof

open Idealize.ShloMosaic Idealize.SL.Sem

/-- The kernel runs, keeps its arguments and ends with its semaphores at zero. -/
theorem frame_kernel : Cert.quiescent_Kernel := fun m g hm =>
  (θ_run _ _ _).mono (fun _ h => ⟨fun c => (h.1 c).2, h.2⟩) (Cert.Kernel.Hand.run_final m g fun c => Labels.inRange_of_labels (hm c))

/-- So does its ideal form. -/
theorem frame_kernelIdeal : Cert.quiescent_KernelIdeal := fun m g hm =>
  (θ_run _ _ _).mono (fun _ h => ⟨fun c => (h.1 c).2, h.2⟩) (Cert.KernelIdeal.Hand.run_final m g fun c => Labels.inRange_of_labels (hm c))

theorem frame_kernelIdeal_finite : Cert.quiescent_KernelIdeal_pre_finite_and_in_range := fun m g hm =>
  (θ_run _ _ _).mono (fun _ h => ⟨fun c => (h.1 c).2, h.2⟩) (Cert.KernelIdeal.Hand.run_final m g fun c => Labels.inRange_of_finite (hm c))

/-- So does the reference. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

theorem frame_reference_finite : Cert.quiescent_ReferenceIdeal_pre_finite_and_in_range := fun m g _ =>
  (θ_run _ _ _).mono (fun r h => ⟨fun c => (h c).2, sem_eq_zero_of_no_sems (by decide) r.2⟩) (Cert.ReferenceIdeal.Value.run m g)

/-- The temperature's reciprocal, read in single precision, is the constant the kernel writes. -/
theorem preserves : Cert.preserves_Kernel_KernelIdeal :=
  IdealRules.named_const.statement Cert.KernelIdeal.κ "inv_temp" .f32 0x41649249#32 ((134217728 / 9395241 : ℝ) : EReal) rfl

/-- From labels in range and finite features and queue, the two programs end with the same loss. -/
theorem algebraic : Cert.algebraic_KernelIdeal_ReferenceIdeal_pre_finite_and_in_range := fun m g m' g' hm hagree => by
  have hx : ∀ c, Labels.InRange _ := fun c => Labels.inRange_of_finite (hm c)
  refine ⟨fun c => Cert.KernelIdeal.Hand.lossOut m (Cert.KernelIdeal.Hand.tabs m) c, ?_, ?_⟩
  · exact (θ_run _ _ _).mono (fun _ h => h.1) (Cert.KernelIdeal.Hand.run_final m g hx)
  · refine (θ_run _ _ _).mono (fun r h c => ⟨(h c).1.trans ?_, (h c).2⟩) (Cert.ReferenceIdeal.Value.run m' g')
    obtain ⟨hq, hk, hQ⟩ := Finite.reals (hm c)
    obtain ⟨e0, e1, -, e3, e4⟩ := hagree c
    have eK := Cert.KernelIdeal.Hand.lossOut_val (m := m) (c := c) ⟨fun n d => hq (ix2 n d), fun n d => hk (ix2 n d), fun l d j => hQ (ix3 l d j)⟩
    have eR := Cert.ReferenceIdeal.Rows.res_val m' c (by rw [e3]; exact hx c) (fun n d => (congrFun e0 (ix2 n d)).trans (hq (ix2 n d)))
      (fun n d => (congrFun e1 (ix2 n d)).trans (hk (ix2 n d))) (fun l d j => (congrFun e4 (ix3 l d j)).trans (hQ (ix3 l d j)))
    rw [e3] at eR
    exact eR.trans eK.symm

/-- Everything claimed. -/
theorem claim : Cert.Claim :=
  ⟨Cert.Kernel.Gen.facts, Cert.KernelIdeal.Gen.facts, Cert.ReferenceIdeal.Gen.facts, Cert.Pre_labels_in_range.Gen.facts,
    Cert.Pre_finite_and_in_range.Gen.facts, frame_kernel, frame_kernelIdeal, frame_kernelIdeal_finite, frame_reference,
    frame_reference_finite, preserves, algebraic⟩

end Cert.Proof

end
